-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x1024 : Shape := ⟨2, ![2, 1024]⟩
abbrev S256x1024 : Shape := ⟨2, ![256, 1024]⟩
abbrev S4x2x1024 : Shape := ⟨3, ![4, 2, 1024]⟩
abbrev S3 : Shape := ⟨1, ![3]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x2x1024 : Shape := ⟨3, ![1, 2, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S2x1024, .f32⟩
  | .local _ .vmem, ⟨3, _⟩ => ⟨S2x1024, .f32⟩
  | .local _ .vmem, ⟨4, _⟩ => ⟨S4x2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v32 : BitVec 32 := Scalar.addi v2 c1_i32_9
  let c4_i32_10 : BitVec 32 := 4#32
  let c0_i32_11 : BitVec 32 := 0#32
  let v33 : BitVec 1 := Scalar.cmpi .eq c4_i32_10 c0_i32_11
  let c1_i32_12 : BitVec 32 := 1#32
  let v34 : BitVec 32 := Scalar.select v33 c1_i32_12 c4_i32_10
  let v35 : BitVec 32 := Scalar.remsi v32 v34
  let c0_i32_14 : BitVec 32 := 0#32
  let v37 : BitVec 1 := Scalar.cmpi .slt v35 c0_i32_14
  let c0_i32_15 : BitVec 32 := 0#32
  let v38 : BitVec 1 := Scalar.cmpi .slt v34 c0_i32_15
  let v39 : BitVec 1 := Scalar.xori v37 v38
  let c0_i32_13 : BitVec 32 := 0#32
  let v36 : BitVec 1 := Scalar.cmpi .ne v35 c0_i32_13
  let v40 : BitVec 1 := Scalar.andi v39 v36
  let v41 : BitVec 32 := Scalar.addi v35 v34
  let v42 : BitVec 32 := Scalar.select v40 v41 v35
  let c1_i32_17 : BitVec 32 := 1#32
  let v43 : BitVec 32 := Scalar.muli v42 c1_i32_17
  let v44 : BitVec 32 := Scalar.addi c0_i32_18 v43
  v44.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v45 : BitVec 32 := Scalar.addi v2 c2_i32
  let c4_i32_19 : BitVec 32 := 4#32
  let c0_i32_20 : BitVec 32 := 0#32
  let v46 : BitVec 1 := Scalar.cmpi .eq c4_i32_19 c0_i32_20
  let c1_i32_21 : BitVec 32 := 1#32
  let v47 : BitVec 32 := Scalar.select v46 c1_i32_21 c4_i32_19
  let v48 : BitVec 32 := Scalar.remsi v45 v47
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let c0_i32_22 : BitVec 32 := 0#32
  let v49 : BitVec 1 := Scalar.cmpi .ne v48 c0_i32_22
  let v53 : BitVec 1 := Scalar.andi v52 v49
  let v54 : BitVec 32 := Scalar.addi v48 v47
  let v55 : BitVec 32 := Scalar.select v53 v54 v48
  let c1_i32_26 : BitVec 32 := 1#32
  let v56 : BitVec 32 := Scalar.muli v55 c1_i32_26
  let v57 : BitVec 32 := Scalar.addi c0_i32_27 v56
  v57.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v58 : BitVec 32 := Scalar.addi v2 c3_i32
  let c4_i32_28 : BitVec 32 := 4#32
  let c0_i32_29 : BitVec 32 := 0#32
  let v59 : BitVec 1 := Scalar.cmpi .eq c4_i32_28 c0_i32_29
  let c1_i32_30 : BitVec 32 := 1#32
  let v60 : BitVec 32 := Scalar.select v59 c1_i32_30 c4_i32_28
  let v61 : BitVec 32 := Scalar.remsi v58 v60
  let c0_i32_32 : BitVec 32 := 0#32
  let v63 : BitVec 1 := Scalar.cmpi .slt v61 c0_i32_32
  let c0_i32_33 : BitVec 32 := 0#32
  let v64 : BitVec 1 := Scalar.cmpi .slt v60 c0_i32_33
  let v65 : BitVec 1 := Scalar.xori v63 v64
  let c0_i32_31 : BitVec 32 := 0#32
  let v62 : BitVec 1 := Scalar.cmpi .ne v61 c0_i32_31
  let v66 : BitVec 1 := Scalar.andi v65 v62
  let v67 : BitVec 32 := Scalar.addi v61 v60
  let v68 : BitVec 32 := Scalar.select v66 v67 v61
  let c1_i32_35 : BitVec 32 := 1#32
  let v69 : BitVec 32 := Scalar.muli v68 c1_i32_35
  let v70 : BitVec 32 := Scalar.addi c0_i32_36 v69
  v70.toNat
def k0_cond4 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_8 : BitVec 32 := 0#32
  let v30 : BitVec 1 := Scalar.cmpi .ne v29 c0_i32_8
  v30

def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v41 : BitVec 32 := Scalar.addi v2 c1_i32_18
  let c4_i32_19 : BitVec 32 := 4#32
  let c0_i32_20 : BitVec 32 := 0#32
  let v42 : BitVec 1 := Scalar.cmpi .eq c4_i32_19 c0_i32_20
  let c1_i32_21 : BitVec 32 := 1#32
  let v43 : BitVec 32 := Scalar.select v42 c1_i32_21 c4_i32_19
  let v44 : BitVec 32 := Scalar.remsi v41 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c1_i32_29 : BitVec 32 := 1#32
  let v52 : BitVec 32 := Scalar.muli v51 c1_i32_29
  let v53 : BitVec 32 := Scalar.addi c0_i32_30 v52
  v53.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v62 : BitVec 32 := Scalar.addi v2 c2_i32
  let c4_i32_35 : BitVec 32 := 4#32
  let c0_i32_36 : BitVec 32 := 0#32
  let v63 : BitVec 1 := Scalar.cmpi .eq c4_i32_35 c0_i32_36
  let c1_i32_37 : BitVec 32 := 1#32
  let v64 : BitVec 32 := Scalar.select v63 c1_i32_37 c4_i32_35
  let v65 : BitVec 32 := Scalar.remsi v62 v64
  let c0_i32_39 : BitVec 32 := 0#32
  let v67 : BitVec 1 := Scalar.cmpi .slt v65 c0_i32_39
  let c0_i32_40 : BitVec 32 := 0#32
  let v68 : BitVec 1 := Scalar.cmpi .slt v64 c0_i32_40
  let v69 : BitVec 1 := Scalar.xori v67 v68
  let c0_i32_38 : BitVec 32 := 0#32
  let v66 : BitVec 1 := Scalar.cmpi .ne v65 c0_i32_38
  let v70 : BitVec 1 := Scalar.andi v69 v66
  let v71 : BitVec 32 := Scalar.addi v65 v64
  let v72 : BitVec 32 := Scalar.select v70 v71 v65
  let c1_i32_45 : BitVec 32 := 1#32
  let v73 : BitVec 32 := Scalar.muli v72 c1_i32_45
  let v74 : BitVec 32 := Scalar.addi c0_i32_46 v73
  v74.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v83 : BitVec 32 := Scalar.addi v2 c3_i32
  let c4_i32_51 : BitVec 32 := 4#32
  let c0_i32_52 : BitVec 32 := 0#32
  let v84 : BitVec 1 := Scalar.cmpi .eq c4_i32_51 c0_i32_52
  let c1_i32_53 : BitVec 32 := 1#32
  let v85 : BitVec 32 := Scalar.select v84 c1_i32_53 c4_i32_51
  let v86 : BitVec 32 := Scalar.remsi v83 v85
  let c0_i32_55 : BitVec 32 := 0#32
  let v88 : BitVec 1 := Scalar.cmpi .slt v86 c0_i32_55
  let c0_i32_56 : BitVec 32 := 0#32
  let v89 : BitVec 1 := Scalar.cmpi .slt v85 c0_i32_56
  let v90 : BitVec 1 := Scalar.xori v88 v89
  let c0_i32_54 : BitVec 32 := 0#32
  let v87 : BitVec 1 := Scalar.cmpi .ne v86 c0_i32_54
  let v91 : BitVec 1 := Scalar.andi v90 v87
  let v92 : BitVec 32 := Scalar.addi v86 v85
  let v93 : BitVec 32 := Scalar.select v91 v92 v86
  let c1_i32_61 : BitVec 32 := 1#32
  let v94 : BitVec 32 := Scalar.muli v93 c1_i32_61
  let v95 : BitVec 32 := Scalar.addi c0_i32_62 v94
  v95.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Slots.lean ====
/-
The exchange buffer of the kernel: four slots of one 2x1024 table each. This module names the slots as the
kernel forms them (a slice of one row of tables, its leading axis dropped), the buffer elements each slot
covers, and how contents move from one slot to another.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore
public import Idealize.ShloMosaic.Lib.ValueLayoutCasts

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The running (value, index) table of one device: row 0 the maxima so far, row 1 their row numbers. -/
abbrev accM : Memref sig .tc .vmem S2x1024 .f32 := Memref.whole cc0_scratch0
/-- The exchange buffer. -/
abbrev comM : Memref sig .tc .vmem S4x2x1024 .f32 := Memref.whole cc0_scratch1

/-- A slot lies inside the exchange buffer. -/
theorem slot_inb (k : Fin 4) : ∀ a, (![k.val, 0, 0] : Fin 3 → ℕ) a + S1x2x1024.size a ≤ S4x2x1024.size a := by
  revert k; decide

/-- The rectangle of slot `k`. -/
abbrev slotR (k : Fin 4) : Rect S4x2x1024 := Rect.unit (s := S4x2x1024) ![k.val, 0, 0] S1x2x1024.size (slot_inb k)

/-- Slot `k` as a 2x1024 table. -/
abbrev slotM (k : Fin 4) : Memref sig .tc .vmem S2x1024 .f32 :=
  (comM.slice (slotR k) (fun _ => rfl)).squeeze S2x1024 squeezes_S1x2x1024_S2x1024

/-- The contents of the exchange buffer. -/
abbrev ComBuf (F : FTy → Type) : Type := (cc0_scratch1 : Ref sig .tc).ty.Contents (Elt F)
/-- The contents of the running table. -/
abbrev AccBuf (F : FTy → Type) : Type := (cc0_scratch0 : Ref sig .tc).ty.Contents (Elt F)

/-- The buffer elements of slot `k`. -/
def slotSet (k : Fin 4) : Finset S4x2x1024.Idx := (slotR k).set

theorem slotM_set (k : Fin 4) : (slotM k).view.set = slotSet k := by
  refine (View.set_reshape ((View.whole cc0_scratch1).slice (slotR k)) _).trans ?_
  exact View.set_slice_whole cc0_scratch1 (slotR k)

/-- An element lies in slot `k` exactly when its first coordinate is `k`. -/
theorem mem_slotSet (k : Fin 4) (i : S4x2x1024.Idx) : i ∈ slotSet k ↔ (i 0).val = k.val := by
  unfold slotSet
  rw [Rect.mem_set_unit]
  constructor
  · intro h
    have h0 := h 0
    simp only [Matrix.cons_val_zero] at h0
    have : S1x2x1024.size 0 = 1 := rfl
    omega
  · intro h a
    have hs : (i a).val < S4x2x1024.size a := (i a).isLt
    fin_cases a
    · simp only [Fin.zero_eta, Matrix.cons_val_zero]
      have : S1x2x1024.size 0 = 1 := rfl
      omega
    · have e : S1x2x1024.size 1 = S4x2x1024.size 1 := rfl
      refine ⟨Nat.zero_le _, ?_⟩
      show (i 1).val < 0 + S1x2x1024.size 1
      rw [Nat.zero_add, e]; exact hs
    · have e : S1x2x1024.size 2 = S4x2x1024.size 2 := rfl
      refine ⟨Nat.zero_le _, ?_⟩
      show (i 2).val < 0 + S1x2x1024.size 2
      rw [Nat.zero_add, e]; exact hs

theorem slot_disjoint {k k' : Fin 4} (h : k ≠ k') : Disjoint (slotSet k) (slotSet k') :=
  Finset.disjoint_left.mpr fun i hi hi' => h (Fin.ext (((mem_slotSet k i).mp hi).symm.trans ((mem_slotSet k' i).mp hi')))

theorem slot_cover : (Finset.univ : Finset (Fin 4)).biUnion slotSet = Finset.univ := by
  ext i
  simp only [Finset.mem_biUnion, Finset.mem_univ, true_and, iff_true]
  exact ⟨⟨(i 0).val, (i 0).isLt⟩, (mem_slotSet _ i).mpr rfl⟩

/-- Two contents are one table's copy: what `f` holds in slot `0`, `g` holds in slot `k`. -/
def Copies (k : Fin 4) (f g : ComBuf F) : Prop :=
  ∀ i j : S4x2x1024.Idx, (i 0).val = 0 → (j 0).val = k.val → (i 1).val = (j 1).val → (i 2).val = (j 2).val → f i = g j

/-- A transfer from slot 0 at contents `f` into slot `k` leaves slot `k` at any contents `g` that copy it. -/
theorem landed_congr (k : Fin 4) (f g fd : ComBuf F) (h : Copies k f g) :
    ∀ i ∈ slotSet k, (slotM k).view.write (Elt F) fd ((slotM 0).view.read (Elt F) f) Finset.univ i = g i := by
  intro i hi
  rw [← slotM_set] at hi
  obtain ⟨x, hx⟩ : ∃ x, (slotM k).view.emb x = i := by
    unfold View.set at hi
    obtain ⟨x, -, hx⟩ := Finset.mem_map.mp hi
    exact ⟨x, hx⟩
  subst hx
  rw [View.write_emb_of_mem _ _ (Finset.mem_univ x)]
  have hr : (slotM 0).view.read (Elt F) f x = f ((slotM 0).view.emb x) := rfl
  have e0 (k : Fin 4) (x : S2x1024.Idx) (a : Fin 3) : (((slotM k).view.emb x : S4x2x1024.Idx) a).val
      = (![k.val, 0, 0] : Fin 3 → ℕ) a + ((Shape.reshapeEquiv squeezes_S1x2x1024_S2x1024.numel_eq x : S1x2x1024.Idx) a).val := by
    show ((slotR k).emb _ a).val = _
    rw [Rect.emb_apply]
    show _ + 1 * _ = _
    rw [Nat.one_mul]; rfl
  have hz (x : S2x1024.Idx) : ((Shape.reshapeEquiv squeezes_S1x2x1024_S2x1024.numel_eq x : S1x2x1024.Idx) 0).val = 0 := by
    have : ((Shape.reshapeEquiv squeezes_S1x2x1024_S2x1024.numel_eq x : S1x2x1024.Idx) 0).val < 1 := Fin.isLt _
    omega
  refine (congrArg _ hr).trans ?_
  refine h _ _ ?_ ?_ ?_ ?_
  · rw [e0 0 x 0, hz]; rfl
  · rw [e0 k x 0, hz]; rfl
  · rw [e0 0 x 1, e0 k x 1]; rfl
  · rw [e0 0 x 2, e0 k x 2]; rfl

end Cert.ArgMax

end
-- ==== Proof.Cells.lean ====
/-
The protocol of the exchange between the four devices, as a schedule of rounds.

Devices are numbered 0..3; `peer c j` is the device `j + 1` places after `c`. Each device has seven semaphores in
the protocol:

* the barrier (cell 0). At the first grid point every device signals one unit to each of the other three and waits
  for three. The signal of device `c` to `peer c j` hands over the slot of `c`'s own exchange buffer that
  `peer c j` will later write, so after its wait a device owns, on each of the others, the slot it copies into.
* three send semaphores (cells 1, 2, 3). Copy `j`, from slot 0 of `c` to slot `j + 1` of `peer c j`, lends a
  share of slot 0 to the transfer; the wait gives it back.
* three receive semaphores (cells 4, 5, 6). Copy `j` into `c` hands over slot `j + 1` of `c`, holding the table
  that the device `j + 1` places before `c` put in its own slot 0.

Every semaphore has one round only. What the buffers hold is given by one function `C` from devices to contents of
the exchange buffer.
-/
module

public import proofs.«01_k».proof.Proof.Slots

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra of ghost state -/

/-- The rounds of the exchange: three names of duties. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

set_option backward.proofsInPublic true in
/-- The device `j + 1` places after `c`. -/
def peer (c : Dev nD) (j : Fin 3) : Dev nD := ⟨(c.val + j.val + 1) % 4, Nat.mod_lt _ (by decide)⟩

/-- The place of `c` as seen from `peer c j`. -/
theorem peer_rev (c : Dev nD) (j : Fin 3) : peer (peer c j) j.rev = c := by revert c j; decide
theorem peer_peer_rev (c : Dev nD) (j : Fin 3) : peer (peer c j.rev) j = c := by revert c j; decide
theorem peer_inj (c d : Dev nD) (j : Fin 3) (h : peer c j = peer d j) : c = d := by revert c d j; decide

/-- Going `j + 1` places on is a permutation of the devices. -/
def turn (j : Fin 3) : Dev nD ≃ Dev nD := ⟨fun c => peer c j, fun c => peer c j.rev, fun c => peer_rev c j, fun c => peer_peer_rev c j⟩

theorem dev1_eq (c : Dev nD) (h) : (⟨k0_dev1 c, h⟩ : Dev nD) = peer c 0 := by revert c; decide +kernel
theorem dev2_eq (c : Dev nD) (h) : (⟨k0_dev2 c, h⟩ : Dev nD) = peer c 1 := by revert c; decide +kernel
theorem dev3_eq (c : Dev nD) (h) : (⟨k0_dev3 c, h⟩ : Dev nD) = peer c 2 := by revert c; decide +kernel
theorem dev4_eq (c : Dev nD) (h) : (⟨k0_dev4 c, h⟩ : Dev nD) = peer c 0 := by revert c; decide +kernel
theorem dev5_eq (c : Dev nD) (h) : (⟨k0_dev5 c, h⟩ : Dev nD) = peer c 1 := by revert c; decide +kernel
theorem dev6_eq (c : Dev nD) (h) : (⟨k0_dev6 c, h⟩ : Dev nD) = peer c 2 := by revert c; decide +kernel

/-! ## Cells -/

/-- The barrier semaphore. -/
abbrev barS : Sem sig := (SemArray.scalar (sig.barrier 0 rfl) : Sems sig S_).sem

theorem dma_inb (k : Fin 6) : k.val + 3 < sig.nDmaSem := by revert k; decide

set_option backward.proofsInPublic true in
/-- The seven semaphores of a device: the barrier, the three of the sends, the three of the receives. -/
def csem (k : Fin 7) : SemLoc sig := Fin.cases (.reg barS) (fun k : Fin 6 => .dma ⟨k.val + 3, dma_inb k⟩) k

abbrev kcell (ck : Dev nD × Fin 7) : GSem nD τ sig := ((ck.1 : Thread nD τ), csem ck.2)

/-- The number of the send semaphore of copy `j`, and of the receive semaphore of copy `j`. -/
def sendK (j : Fin 3) : Fin 7 := ⟨j.val + 1, by omega⟩
def recvK (j : Fin 3) : Fin 7 := ⟨j.val + 4, by omega⟩

abbrev barCell (c : Dev nD) : GSem nD τ sig := kcell (c, 0)
abbrev sendCell (c : Dev nD) (j : Fin 3) : GSem nD τ sig := kcell (c, sendK j)
abbrev recvCell (c : Dev nD) (j : Fin 3) : GSem nD τ sig := kcell (c, recvK j)

/-- Which of the seven a semaphore is, if any. -/
def kOf (sm : SemLoc sig) : Option (Fin 7) := (List.finRange 7).find? fun k => decide (csem k = sm)

theorem kOf_csem (k : Fin 7) : kOf (csem k) = some k := by revert k; decide

theorem csem_inj : Function.Injective csem := fun a b h => by
  have := congrArg kOf h
  rw [kOf_csem, kOf_csem] at this
  exact Option.some.inj this

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_inj (congrArg Prod.snd h)
  subst h1 h2; rfl

/-- The credit of one copy: a slot's. -/
abbrev N : ℕ := (slotM 0).view.dmaCredit
theorem N_pos : 0 < N := View.dmaCredit_pos _ (by decide)

/-! ## Contents handed over -/

/-- Slot `k` of device `c` at share `q`, holding what `f` has there. -/
def slotPts (c : Dev nD) (k : Fin 4) (q : PosShare TreeShare) (f : ComBuf F) : sProp 𝕄 :=
  ((c : Thread nD τ).loc cc0_scratch1) ↦[slotSet k]{q} f

omit [FloatOps F] in
instance slotPts_storable (c : Dev nD) (k : Fin 4) (q) (f : ComBuf F) : BI.Storable (upEmb : UEmb _ 𝕄) (slotPts (F := F) c k q f) := by
  unfold slotPts; infer_instance

omit [FloatOps F] in
theorem slotPts_eq (c : Dev nD) (k : Fin 4) (q : PosShare TreeShare) (f : ComBuf F) :
    (slotPts c k q f : sProp 𝕄) = ((slotM k).view.loc (c : Thread nD τ) ↦[(slotM k).view.set]{q} f) := by
  unfold slotPts; rw [slotM_set]

/-- Slot `j + 1`. -/
def slotUp (j : Fin 3) : Fin 4 := ⟨j.val + 1, by omega⟩

/-- The share of slot 0 that copy `j` takes; the fourth quarter stays with the device. -/
def lent (j : Fin 3) : PosShare TreeShare :=
  if j = 0 then fullShare.left.left else if j = 1 then fullShare.left.right else fullShare.right.left
def kept : PosShare TreeShare := fullShare.right.right

omit [FloatOps F] in
/-- Slot 0 in four quarters. -/
theorem slot0_quarters (c : Dev nD) (k : Fin 4) (f : ComBuf F) :
    (slotPts c k fullShare f : sProp 𝕄)
      ⊣⊢ iprop((slotPts c k (lent 0) f ∗ slotPts c k (lent 1) f) ∗ slotPts c k (lent 2) f ∗ slotPts c k kept f) := by
  unfold slotPts
  refine (pointsTo_share (PosShare.mem_left_op_right fullShare)).trans ?_
  exact sep_congr (pointsTo_share (PosShare.mem_left_op_right fullShare.left)) (pointsTo_share (PosShare.mem_left_op_right fullShare.right))

variable (C : Dev nD → ComBuf F)

/-- What the signal of `peer c e` to `c` hands over: the slot `c` will copy into on that device. -/
def barPay (c : Dev nD) (e : Fin 3) : sProp 𝕄 := iprop(∃ f, slotPts (peer c e) (slotUp e) fullShare f)
/-- What the end of send `j` gives back. -/
def sendPay (c : Dev nD) (j : Fin 3) : sProp 𝕄 := slotPts c 0 (lent j) (C c)
/-- What the arrival of copy `j` hands over. -/
def recvPay (c : Dev nD) (j : Fin 3) : sProp 𝕄 := slotPts c (slotUp j) fullShare (C c)

/-- The payload of duty `d` at cell `k` of device `c`. -/
def cellPay (c : Dev nD) (d : Fin 3) (k : Fin 7) : sProp 𝕄 :=
  if k = 0 then barPay c d
  else if k.val < 4 then sendPay C c ⟨(k.val - 1) % 3, Nat.mod_lt _ (by decide)⟩
  else recvPay C c ⟨(k.val - 4) % 3, Nat.mod_lt _ (by decide)⟩

omit [FloatOps F] in
instance barPay_storable (c : Dev nD) (e : Fin 3) : BI.Storable (upEmb : UEmb _ 𝕄) (barPay (F := F) c e) := by unfold barPay; infer_instance
omit [FloatOps F] in
instance sendPay_storable (c : Dev nD) (e : Fin 3) : BI.Storable (upEmb : UEmb _ 𝕄) (sendPay C c e) := by unfold sendPay; infer_instance
omit [FloatOps F] in
instance recvPay_storable (c : Dev nD) (e : Fin 3) : BI.Storable (upEmb : UEmb _ 𝕄) (recvPay C c e) := by unfold recvPay; infer_instance

/-- The schedule: at round 0 the barrier of each device has three duties of one unit, every send and receive
    semaphore one duty of a slot's credit. -/
def exch : Rounds.Schedule (GSem nD τ sig) (Fin 3) 𝕄 where
  duties g r := if r = 0 ∧ g.1.2 = .tc then (kOf g.2).elim ∅ fun k => if k = 0 then Finset.univ else {0} else ∅
  unitless _ := False
  amount g _ _ := if kOf g.2 = some 0 then 1 else N
  payload g _ d := (kOf g.2).elim iprop(emp) (cellPay C g.1.1 d)
  amount_pos g _ _ _ := by
    by_cases h : kOf g.2 = some 0
    · rw [if_pos h]; exact Nat.one_pos
    · rw [if_neg h]; exact N_pos

instance exch_payload_storable (g : GSem nD τ sig) (r : ℕ) (d : Fin 3) : BI.Storable (upEmb : UEmb _ 𝕄) ((exch C).payload g r d) := by
  show BI.Storable upEmb ((kOf g.2).elim iprop(emp) (cellPay C g.1.1 d))
  cases kOf g.2 with
  | none => exact (inferInstance : BI.Storable (upEmb : UEmb _ 𝕄) iprop(emp))
  | some k =>
    show BI.Storable upEmb (cellPay C g.1.1 d k)
    unfold cellPay
    (repeat' split) <;> infer_instance

omit [FloatOps F] in
theorem duties_cell (c : Dev nD) (k : Fin 7) : (exch C).duties (kcell (c, k)) 0 = if k = 0 then Finset.univ else {0} := by
  dsimp only [exch]; rw [if_pos ⟨rfl, rfl⟩, kOf_csem]; rfl
omit [FloatOps F] in
theorem duties_later (g : GSem nD τ sig) : ∀ r, 1 ≤ r → (exch C).duties g r = ∅ :=
  fun r hr => by dsimp only [exch]; rw [if_neg fun h => by omega]
omit [FloatOps F] in
theorem amount_cell (c : Dev nD) (k : Fin 7) (d : Fin 3) : (exch C).amount (kcell (c, k)) 0 d = if k = 0 then 1 else N := by
  dsimp only [exch]; rw [kOf_csem]
  by_cases h : k = 0
  · rw [if_pos h, if_pos (congrArg some h)]
  · rw [if_neg h, if_neg fun h' => h (Option.some.inj h')]
omit [FloatOps F] in
theorem payload_cell (c : Dev nD) (k : Fin 7) (d : Fin 3) : (exch C).payload (kcell (c, k)) 0 d = cellPay C c d k := by
  dsimp only [exch]; rw [kOf_csem]; rfl

theorem sendK_ne (j : Fin 3) : sendK j ≠ 0 := by revert j; decide
theorem recvK_ne (j : Fin 3) : recvK j ≠ 0 := by revert j; decide
theorem sendK_ne_recvK (j j' : Fin 3) : sendK j ≠ recvK j' := by revert j j'; decide

omit [FloatOps F] in
theorem payload_bar (c : Dev nD) (d : Fin 3) : (exch C).payload (barCell c) 0 d = barPay c d := (payload_cell C c 0 d).trans (if_pos rfl)
omit [FloatOps F] in
theorem payload_send (c : Dev nD) (j d : Fin 3) : (exch C).payload (sendCell c j) 0 d = sendPay C c j := by
  rw [payload_cell]; unfold cellPay; rw [if_neg (sendK_ne j), if_pos (by revert j; decide)]
  congr 1; revert j; decide
omit [FloatOps F] in
theorem payload_recv (c : Dev nD) (j d : Fin 3) : (exch C).payload (recvCell c j) 0 d = recvPay C c j := by
  rw [payload_cell]; unfold cellPay; rw [if_neg (recvK_ne j), if_neg (by revert j; decide)]
  congr 1; revert j; decide

omit [FloatOps F] in
theorem expect_bar (c : Dev nD) : (exch C).expect (barCell c) 0 = 3 := by
  unfold Schedule.expect Schedule.amountOf
  rw [duties_cell, if_pos rfl, Finset.sum_congr rfl fun d _ => (amount_cell C c 0 d).trans (if_pos rfl), Finset.sum_const, Finset.card_univ]
  rfl
omit [FloatOps F] in
theorem expect_dma (c : Dev nD) {k : Fin 7} (hk : k ≠ 0) : (exch C).expect (kcell (c, k)) 0 = N := by
  unfold Schedule.expect Schedule.amountOf; rw [duties_cell, if_neg hk, Finset.sum_singleton, amount_cell, if_neg hk]

omit [FloatOps F] in
theorem rest_bar (c : Dev nD) : bigSep ((exch C).duties (barCell c) 0 \ ∅) (fun d => (exch C).payload (barCell c) 0 d)
    = iprop(barPay c 0 ∗ barPay c 1 ∗ barPay (F := F) c 2) := by
  rw [Finset.sdiff_empty, duties_cell, if_pos rfl, bigSep_univ_eq_bigSepL [0, 1, 2] (by decide) (by decide), bigSepL_cons_cons, bigSepL_cons_cons,
    bigSepL_singleton, payload_bar, payload_bar, payload_bar]
  rfl
omit [FloatOps F] in
theorem rest_send (c : Dev nD) (j : Fin 3) : bigSep ((exch C).duties (sendCell c j) 0 \ ∅) (fun d => (exch C).payload (sendCell c j) 0 d)
    = slotPts c 0 (lent j) (C c) := by
  rw [Finset.sdiff_empty, duties_cell, if_neg (sendK_ne j), bigSep_singleton, payload_send]; rfl
omit [FloatOps F] in
theorem rest_recv (c : Dev nD) (j : Fin 3) : bigSep ((exch C).duties (recvCell c j) 0 \ ∅) (fun d => (exch C).payload (recvCell c j) 0 d)
    = slotPts c (slotUp j) fullShare (C c) := by
  rw [Finset.sdiff_empty, duties_cell, if_neg (recvK_ne j), bigSep_singleton, payload_recv]; rfl

/-! ## What each device owes, and the levels of the waits -/

/-- The three copies, the last to start written first. -/
def O₁ (c : Dev nD) : CellTallies nD τ sig Unit :=
  tallyAt (recvCell (peer c 2) 2) () N + tallyAt (recvCell (peer c 1) 1) () N + tallyAt (recvCell (peer c 0) 0) () N
/-- The copies and the three signals. -/
def O₀ (c : Dev nD) : CellTallies nD τ sig Unit :=
  O₁ c + tallyAt (barCell (peer c 2)) () 1 + tallyAt (barCell (peer c 1)) () 1 + tallyAt (barCell (peer c 0)) () 1

def L (g : GSem nD τ sig) : Finset Unit := if g.1.2 = .tc then {()} else ∅
/-- The barrier is at level 1, the receives at 2, everything else at 0. -/
def lv (g : GSem nD τ sig) (_ : Unit) : ℕ := (kOf g.2).elim 0 fun k => if k = 0 then 1 else if k.val < 4 then 0 else 2

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (k : Fin 7) : lv (kcell (c, k)) () = if k = 0 then 1 else if k.val < 4 then 0 else 2 := by
  unfold lv; rw [kOf_csem]; rfl
theorem lv_bar (c : Dev nD) : lv (barCell c) () = 1 := (lv_cell c 0).trans (if_pos rfl)
theorem lv_recv (c : Dev nD) (j : Fin 3) : lv (recvCell c j) () = 2 := by
  rw [lv_cell, if_neg (recvK_ne j), if_neg (by revert j; decide)]

theorem tally_pos {g g' : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

theorem O₁_pos {c : Dev nD} {g : GSem nD τ sig} {u : Unit} (h : 0 < O₁ c g u) : ∃ d j, g = recvCell d j := by
  unfold O₁ at h
  rcases add_pos_cases h with h | h
  · rcases add_pos_cases h with h | h
    · exact ⟨_, _, tally_pos h⟩
    · exact ⟨_, _, tally_pos h⟩
  · exact ⟨_, _, tally_pos h⟩

theorem O₀_pos {c : Dev nD} {g : GSem nD τ sig} {u : Unit} (h : 0 < O₀ c g u) : (∃ d j, g = recvCell d j) ∨ ∃ d, g = barCell d := by
  unfold O₀ at h
  rcases add_pos_cases h with h | h
  · rcases add_pos_cases h with h | h
    · rcases add_pos_cases h with h | h
      · exact .inl (O₁_pos h)
      · exact .inr ⟨_, tally_pos h⟩
    · exact .inr ⟨_, tally_pos h⟩
  · exact .inr ⟨_, tally_pos h⟩

omit [FloatOps F] in
/-- A wait at level 0 is allowed whatever of the protocol is owed. -/
theorem mayWait_low (c : Dev nD) (sm : SemLoc sig) (hsm : lv ((c : Thread nD τ), sm) () = 0) (O : CellTallies nD τ sig Unit)
    (hO : O = O₀ c ∨ O = O₁ c ∨ O = 0) : (levAts L lv : sProp 𝕄) ⊢ MayWait (c : Thread nD τ) sm () O := by
  have key : (O = O₀ c ∨ O = O₁ c) → (levAts L lv : sProp 𝕄) ⊢ MayWait (c : Thread nD τ) sm () O := by
    intro h
    have hp : ∀ g (u : Unit), 0 < O g u → (∃ d j, g = recvCell d j) ∨ ∃ d, g = barCell d := by
      rcases h with rfl | rfl
      · exact fun g u h => O₀_pos h
      · exact fun g u h => .inl (O₁_pos h)
    refine MayOwe.of_cut (L := L) (lev := lv) 0 (fun p hp => by rw [Finset.mem_singleton.mp hp, L_tc]; exact Finset.mem_singleton_self _)
      (fun g u hg => by rcases hp g u hg with ⟨d, j, rfl⟩ | ⟨d, rfl⟩ <;> exact Finset.mem_singleton_self _)
      (fun p hp => by rw [Finset.mem_singleton.mp hp]; exact le_of_eq hsm)
      (fun g u hg => by
        rcases hp g u hg with ⟨d, j, rfl⟩ | ⟨d, rfl⟩
        · cases u; rw [lv_recv]; decide
        · cases u; rw [lv_bar]; decide)
  rcases hO with h | h | rfl
  · exact key (.inl h)
  · exact key (.inr h)
  · rw [MayWait_zero]; iintro -; iempintro

omit [FloatOps F] in
/-- At its barrier wait a device owes the three copies only: receive cells, above the barrier. -/
theorem mayWait_bar (c : Dev nD) : (levAts L lv : sProp 𝕄) ⊢ MayWait (c : Thread nD τ) (csem 0) () (O₁ c) :=
  MayOwe.of_cut (L := L) (lev := lv) 1 (fun p hp => by rw [Finset.mem_singleton.mp hp, L_tc]; exact Finset.mem_singleton_self _)
    (fun g u hg => by obtain ⟨d, j, rfl⟩ := O₁_pos hg; exact Finset.mem_singleton_self _)
    (fun p hp => by rw [Finset.mem_singleton.mp hp]; exact le_of_eq (lv_bar c))
    (fun g u hg => by obtain ⟨d, j, rfl⟩ := O₁_pos hg; cases u; rw [lv_recv]; decide)

end Cert.ArgMax

end
-- ==== Proof.Steps.lean ====
/-
One rule for each kind of step of the exchange: a signal of the barrier, the wait at the barrier, a copy to another
device, and a wait for a copy. Each is stated over what a device holds: the record that the cells' invariants stand,
what it still owes, its tokens and the slots.
-/
module

public import proofs.«01_k».proof.Proof.Cells

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c` ends in `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits it has recorded. -/
def owing (c : Dev nD) (O : CellTallies nD τ sig Unit) : sProp 𝕄 := iprop(∃ W, owes (c : Thread nD τ) O W)

variable (C : Dev nD → ComBuf F) (K : Dev nD × Fin 7 → ℕ)

/-- Every cell of every device stands under its invariant and has reached round 0. -/
def records : sProp 𝕄 :=
  iprop((bigSep Finset.univ fun ck : Dev nD × Fin 7 => cellInv ER (exch C) (K ck) (kcell ck))
    ∗ bigSep Finset.univ fun ck : Dev nD × Fin 7 => reached ER (kcell ck) 0)

instance records_persistent : BI.Persistent (records C K) := by unfold records; infer_instance

omit [FloatOps F] in
theorem records_inv (ck : Dev nD × Fin 7) : records C K ⊢ cellInv ER (exch C) (K ck) (kcell ck) := by
  unfold records
  exact sep_elim_left.trans (bigSep_elim (Φ := fun ck : Dev nD × Fin 7 => (cellInv ER (exch C) (K ck) (kcell ck) : sProp 𝕄)) (Finset.mem_univ ck))
omit [FloatOps F] in
theorem records_reached (ck : Dev nD × Fin 7) : records C K ⊢ reached ER (kcell ck) 0 := by
  unfold records
  exact sep_elim_right.trans (bigSep_elim (Φ := fun ck : Dev nD × Fin 7 => (reached ER (kcell ck) 0 : sProp 𝕄)) (Finset.mem_univ ck))

omit [FloatOps F] in
/-- A cell whose only round is over closes: its counter is zero. -/
theorem close_cell (ck : Dev nD × Fin 7) :
    iprop(records C K ∗ atPos ER (kcell ck) (0 + 1) ∅ 0) ⊢ iprop(|={Set.univ}=> semVal (kcell ck) 0) :=
  (sep_mono_left (records_inv C K ck)).trans
    (Rounds.cell_close ER (exch C) (Set.mem_univ (K ck)) (fun h => h) (R := 0 + 1) (duties_later C (kcell ck)))

/-- The signal of `c` to the barrier of `peer c j`: it pays duty `j.rev` there, handing over a slot of its own. -/
theorem signal_step {α : Type} {Q : α → sProp 𝕄} {k : PUnit → Prog (TpuEff nD τ sig (Elt F) Λ₀ .tc) α}
    (c : Dev nD) (j : Fin 3) (O O' : CellTallies nD τ sig Unit) (hO : O = O' + tallyAt (barCell (peer c j)) () 1) :
    iprop(records C K ∗ owing c O ∗ dutyTok ER (barCell (peer c j)) 0 j.rev ∗ (∃ f : ComBuf F, slotPts c (slotUp j.rev) fullShare f))
      ⊢ iprop((owing c O' -∗ runs (F := F) c (k ⟨⟩) Q)
          -∗ runs (F := F) c (.op (.semSignal (peer c j : Thread nD τ) barS (1#32 : BitVec 32).toInt) k) Q) := by
  unfold owing
  iintro ⟨#HR, ⟨%W, HO⟩, Htok, Hsl⟩ Hk
  iapply (Rounds.wp_signal 𝒱₀ ER (exch C) (c : Thread nD τ) none (dst := (peer c j : Thread nD τ)) (sem := barS) (κ := K (peer c j, 0)) (r := 0)
      (d := j.rev) (show j.rev ∈ (exch C).duties (barCell (peer c j)) 0 from by rw [duties_cell, if_pos rfl]; exact Finset.mem_univ _)
      (((amount_cell C (peer c j) 0 j.rev).trans (if_pos rfl)).trans (by decide)) () O' hO)
    $$ [HO Htok Hsl]
  · isplitr; · iapply (records_inv C K (peer c j, 0)); iexact HR
    isplitl [HO]; · iexact HO
    isplitl [Htok]; · iexact Htok
    isplitl [Hsl]
    · have e : iprop(∃ f : ComBuf F, slotPts c (slotUp j.rev) fullShare f) ⊢ (exch C).payload (barCell (peer c j)) 0 j.rev := by
        rw [payload_bar]; unfold barPay; rw [peer_rev]
      iapply (show iprop(∃ f : ComBuf F, slotPts c (slotUp j.rev) fullShare f) ⊢ (exch C).payload ((peer c j : Thread nD τ), .reg barS) 0 j.rev from e)
      iexact Hsl
    iapply (records_reached C K (peer c j, 0)); iexact HR
  iintro HO
  iapply Hk
  iexists W; iexact HO

/-- The wait for three at its own barrier: the three slots to copy into come with it, and the barrier's counter is zero. -/
theorem barrier_step {α : Type} {Q : α → sProp 𝕄} {k : PUnit → Prog (TpuEff nD τ sig (Elt F) Λ₀ .tc) α}
    (c : Dev nD) :
    iprop(records C K ∗ cred (tallyAt (barCell c) () 3) ∗ owing c (O₁ c) ∗ levAts L lv ∗ atPos ER (barCell c) 0 ∅ 0)
      ⊢ iprop(((owing (F := F) c (O₁ c) ∗ semVal (barCell c) 0 ∗ barPay (F := F) c 0 ∗ barPay (F := F) c 1 ∗ barPay (F := F) c 2) -∗ runs (F := F) c (k ⟨⟩) Q)
          -∗ runs (F := F) c (.op (.semWait barS (3#32 : BitVec 32).toInt) k) Q) := by
  unfold owing
  iintro ⟨#HR, Hc, ⟨%W, HO⟩, Hlev, Hat⟩ Hk
  iapply (Rounds.wp_wait_rest_token 𝒱₀ ER (exch C) (c : Thread nD τ) none (sm := csem 0) (κ := K (c, 0))
      (wpE_semWait_eq 𝒱₀ (c : Thread nD τ) none Set.univ) (Set.mem_univ _) () (O := O₁ c) (W := W) (R := 0) (m := 0) (T := ∅)
      (by rw [expect_bar]; decide)) $$ [Hc HO Hlev Hat]
  · isplitr; · iapply (records_inv C K (c, 0)); iexact HR
    isplitl [Hc]; · iexact Hc
    isplitl [HO]; · iexact HO
    isplitl [Hlev]; · iapply (mayWait_bar c); iexact Hlev
    iexact Hat
  iintro ⟨HO, Hat, -, Hpay⟩
  ihave Hp := (Entails.of_eq (rest_bar C c)) $$ Hpay
  imod (close_cell C K (c, 0)) $$ [Hat] with Hz
  · isplitr; · iexact HR
    iexact Hat
  iapply Hk
  isplitl [HO]; · iexists _; iexact HO
  isplitl [Hz]; · iexact Hz
  iexact Hp

/-- Copy `j` of `c`: slot 0 into slot `j + 1` of `peer c j`. -/
theorem send_step {α : Type} {Q : α → sProp 𝕄} {k : PUnit → Prog (TpuEff nD τ sig (Elt F) Λ₀ .tc) α}
    (hC : ∀ (c : Dev nD) (j : Fin 3), Copies (slotUp j) (C c) (C (peer c j))) (c : Dev nD) (j : Fin 3)
    (s s' : DmaSem sig) (hs : csem (sendK j) = .dma s) (hs' : csem (recvK j) = .dma s')
    (O O' : CellTallies nD τ sig Unit) (hO : O = O' + tallyAt (recvCell (peer c j) j) () N)
    (n : Dev nD) (hn : n = peer c j)
    {hsc : (slotM (slotUp j) : Memref sig (Dev.tc n : Thread nD τ).2.kind .vmem S2x1024 .f32).view.ref.isScScratch = false}
    {hsrc : (slotM 0).view.WordExact} {hdst : (slotM (slotUp j)).view.WordExact}
    {hsem : DmaTarget.Typed .vmem (.dma s') (.remote (Dev.tc n : Thread nD τ) (slotM (slotUp j)) (.dma s) hsc)} :
    iprop(records C K ∗ slotPts c 0 (lent j) (C c) ∗ barPay c j ∗ owing c O
        ∗ dutyTok ER (sendCell c j) 0 0 ∗ dutyTok ER (recvCell (peer c j) j) 0 0)
      ⊢ iprop(((cred (tallyAt (sendCell c j) () N) ∗ owing c O') -∗ runs (F := F) c (k ⟨⟩) Q)
          -∗ runs (F := F) c (.op (.enqueueDma (slotM 0) (.remote (Dev.tc n : Thread nD τ) (slotM (slotUp j)) (.dma s) hsc) (.dma s') hsrc hdst hsem) k) Q) := by
  subst hn hO
  unfold owing barPay
  iintro ⟨#HR, Hsrc, ⟨%fd, Hdst⟩, ⟨%W, HO⟩, HtS, HtV⟩ Hk
  have e1 : (sendCell c j : GSem nD τ sig) = ((c : Thread nD τ), .dma s) := congrArg _ hs
  have e2 : (recvCell (peer c j) j : GSem nD τ sig) = ((peer c j : Thread nD τ), .dma s') := congrArg _ hs'
  iapply (Rounds.wp_send_pointsTo 𝒱₀ ER (exch C) (c : Thread nD τ) none (κ₁ := K (c, sendK j)) (κ₂ := K (peer c j, recvK j))
    (q := lent j) (fs := C c) (r₁ := 0) (r₂ := 0) (d₁ := 0) (d₂ := 0) (fd := fd)
    (by rw [← e1, duties_cell, if_neg (sendK_ne j)]; exact Finset.mem_singleton_self _)
    (by rw [← e2, duties_cell, if_neg (recvK_ne j)]; exact Finset.mem_singleton_self _)
    () () N rfl
    (by rw [← e1]; exact (amount_cell C c (sendK j) 0).trans (if_neg (sendK_ne j)))
    (by rw [← e2]; exact (amount_cell C (peer c j) (recvK j) 0).trans (if_neg (recvK_ne j)))
    O' (by rw [← e2]) (W := W)
    (by rw [← e1, payload_send]; unfold sendPay; exact Entails.of_eq (slotPts_eq c 0 (lent j) (C c)).symm)
    (by
      rw [← e2, payload_recv]; unfold recvPay slotPts
      refine Entails.of_eq ?_
      rw [slotM_set]
      exact pointsTo_congr (landed_congr (slotUp j) (C c) (C (peer c j)) fd (hC c j)))) $$ [Hsrc Hdst HO HtS HtV]
  · rw [← e1, ← e2, ← slotPts_eq, ← slotPts_eq]
    isplitr; · iapply (records_inv C K (c, sendK j)); iexact HR
    isplitr; · iapply (records_inv C K (peer c j, recvK j)); iexact HR
    isplitl [Hsrc]; · iexact Hsrc
    isplitl [Hdst]; · iexact Hdst
    isplitl [HO]; · iexact HO
    isplitl [HtS]; · iexact HtS
    isplitr; · iapply (records_reached C K (c, sendK j)); iexact HR
    isplitl [HtV]; · iexact HtV
    iapply (records_reached C K (peer c j, recvK j)); iexact HR
  rw [← e1]
  iintro ⟨Hcr, HO⟩
  iapply Hk
  isplitl [Hcr]; · iexact Hcr
  iexists W; iexact HO

/-- The wait for a copy, on cell `x` of `c`: what the copy handed over comes with it, and the counter is zero. -/
theorem copy_wait_step {α : Type} {Q : α → sProp 𝕄} {k : PUnit → Prog (TpuEff nD τ sig (Elt F) Λ₀ .tc) α}
    (c : Dev nD) (x : Fin 7) (hx : x ≠ 0) (s : DmaSem sig) (hs : csem x = .dma s)
    {sp : Space} {s₁ s₂ : Shape} {e₁ e₂ : EltTy} {sp' : Space}
    {src : Memref sig .tc sp s₁ e₁} {dst : Memref sig .tc sp' s₂ e₂} {hsrc : src.view.WordExact} {hdst : dst.view.WordExact}
    (hN : dst.view.dmaCredit = N) :
    iprop(records C K ∗ cred (tallyAt (kcell (c, x)) () N) ∗ owing c 0 ∗ atPos ER (kcell (c, x)) 0 ∅ 0)
      ⊢ iprop(((owing (F := F) c 0 ∗ semVal (kcell (c, x)) 0
            ∗ bigSep ((exch C).duties (kcell (c, x)) 0 \ ∅) (fun d => (exch C).payload (kcell (c, x)) 0 d)) -∗ runs (F := F) c (k ⟨⟩) Q)
          -∗ runs (F := F) c (.op (.waitDma2 s src dst hsrc hdst) k) Q) := by
  unfold owing
  iintro ⟨#HR, Hc, ⟨%W, HO⟩, Hat⟩ Hk
  have e1 : (kcell (c, x) : GSem nD τ sig) = ((c : Thread nD τ), .dma s) := congrArg _ hs
  iapply (Rounds.wp_wait_rest_token 𝒱₀ ER (exch C) (c : Thread nD τ) none (sm := .dma s) (κ := K (c, x))
      (wpE_waitDma2_eq 𝒱₀ (c : Thread nD τ) none Set.univ) (Set.mem_univ _) () (O := 0) (W := W) (R := 0) (m := 0) (T := ∅)
      (by rw [Nat.zero_add, hN, ← e1, expect_dma C c hx])) $$ [Hc HO Hat]
  · rw [← e1, hN]
    isplitr; · iapply (records_inv C K (c, x)); iexact HR
    isplitl [Hc]; · iexact Hc
    isplitl [HO]; · iexact HO
    isplitr; · rw [MayWait_zero]; iempintro
    iexact Hat
  rw [← e1]
  iintro ⟨HO, Hat, -, Hpay⟩
  imod (close_cell C K (c, x)) $$ [Hat] with Hz
  · isplitr; · iexact HR
    iexact Hat
  iapply Hk
  isplitl [HO]; · iexists _; iexact HO
  isplitl [Hz]; · iexact Hz
  iexact Hpay

/-- The wait for the arrival of copy `j`. -/
theorem arrive_step {α : Type} {Q : α → sProp 𝕄} {k : PUnit → Prog (TpuEff nD τ sig (Elt F) Λ₀ .tc) α}
    (c : Dev nD) (j : Fin 3) (s : DmaSem sig) (hs : csem (recvK j) = .dma s)
    {sp : Space} {s₁ s₂ : Shape} {e₁ e₂ : EltTy} {sp' : Space}
    {src : Memref sig .tc sp s₁ e₁} {dst : Memref sig .tc sp' s₂ e₂} {hsrc : src.view.WordExact} {hdst : dst.view.WordExact}
    (hN : dst.view.dmaCredit = N) :
    iprop(records C K ∗ cred (tallyAt (recvCell c j) () N) ∗ owing c 0 ∗ atPos ER (recvCell c j) 0 ∅ 0)
      ⊢ iprop(((owing (F := F) c 0 ∗ semVal (recvCell c j) 0 ∗ slotPts c (slotUp j) fullShare (C c)) -∗ runs (F := F) c (k ⟨⟩) Q)
          -∗ runs (F := F) c (.op (.waitDma2 s src dst hsrc hdst) k) Q) := by
  refine (copy_wait_step (k := k) (Q := Q) C K c (recvK j) (recvK_ne j) s hs (src := src) (dst := dst) (hsrc := hsrc) (hdst := hdst) hN).trans ?_
  rw [rest_recv]

/-- The wait for the end of send `j`. -/
theorem sent_step {α : Type} {Q : α → sProp 𝕄} {k : PUnit → Prog (TpuEff nD τ sig (Elt F) Λ₀ .tc) α}
    (c : Dev nD) (j : Fin 3) (s : DmaSem sig) (hs : csem (sendK j) = .dma s)
    {sp : Space} {s₁ s₂ : Shape} {e₁ e₂ : EltTy} {sp' : Space}
    {src : Memref sig .tc sp s₁ e₁} {dst : Memref sig .tc sp' s₂ e₂} {hsrc : src.view.WordExact} {hdst : dst.view.WordExact}
    (hN : dst.view.dmaCredit = N) :
    iprop(records C K ∗ cred (tallyAt (sendCell c j) () N) ∗ owing c 0 ∗ atPos ER (sendCell c j) 0 ∅ 0)
      ⊢ iprop(((owing (F := F) c 0 ∗ semVal (sendCell c j) 0 ∗ slotPts c 0 (lent j) (C c)) -∗ runs (F := F) c (k ⟨⟩) Q)
          -∗ runs (F := F) c (.op (.waitDma2 s src dst hsrc hdst) k) Q) := by
  refine (copy_wait_step (k := k) (Q := Q) C K c (sendK j) (sendK_ne j) s hs (src := src) (dst := dst) (hsrc := hsrc) (hdst := hdst) hN).trans ?_
  rw [rest_send]

end Cert.ArgMax

end
-- ==== Proof.Rows.lean ====
/-
Reading and writing the kernel's tables one row at a time: what a load of a row reads and what a store of a row
leaves, for the running table, the exchange buffer and the result's staging buffer; and the casts between a row
and a vector, read at an index.
-/
module

public import proofs.«01_k».proof.Proof.Slots
public import Idealize.ShloMosaic.Lib.Pipeline.Value

@[expose] public section

set_option maxRecDepth 16384

noncomputable section

namespace Cert.ArgMax

open Cert.KernelIdeal Cert.KernelIdeal.Gen
open Idealize.ShloMosaic
open Idealize.ShloMosaic.TcCoe
open Idealize.ShloMosaic.ValueIdx

variable {F : FTy → Type} [FloatOps F]

/-! ## Casts -/

section Casts
variable {α : Type}

theorem rowToVec_apply (v : S1x1024.Idx → α) (h : S1x1024.ShapeCasts S1024) (j : S1024.Idx) :
    shapeCast S1024 v h j = v (ix2 0 (j 0)) :=
  shapeCast_apply v h j (ix2 (0 : Fin 1) (j 0)) (by rw [Shape.rowMajor_val_two, Shape.rowMajor_val_one]; show 0 * 1024 + (j 0).val = (j 0).val; omega)

theorem vecToRow_apply (v : S1024.Idx → α) (h : S1024.ShapeCasts S1x1024) (j : S1x1024.Idx) :
    shapeCast S1x1024 v h j = v (ix1 (j 1)) :=
  shapeCast_apply v h j (ix1 (j 1)) (by
    rw [Shape.rowMajor_val_two, Shape.rowMajor_val_one]
    have h0 : (j 0).val < 1 := (j 0).isLt
    show (j 1).val = (j 0).val * 1024 + (j 1).val
    omega)

theorem vecToSlotRow_apply (v : S1024.Idx → α) (h : S1024.ShapeCasts S1x1x1024) (j : S1x1x1024.Idx) :
    shapeCast S1x1x1024 v h j = v (ix1 (j 2)) :=
  shapeCast_apply v h j (ix1 (j 2)) (by
    rw [Shape.rowMajor_val_three, Shape.rowMajor_val_one]
    have h0 : (j 0).val < 1 := (j 0).isLt
    have h1 : (j 1).val < 1 := (j 1).isLt
    show (j 2).val = ((j 0).val * 1 + (j 1).val) * 1024 + (j 2).val
    omega)

theorem slotRowToVec_apply (v : S1x1x1024.Idx → α) (h : S1x1x1024.ShapeCasts S1024) (j : S1024.Idx) :
    shapeCast S1024 v h j = v (ix3 0 0 (j 0)) :=
  shapeCast_apply v h j (ix3 (0 : Fin 1) (0 : Fin 1) (j 0)) (by
    rw [Shape.rowMajor_val_three, Shape.rowMajor_val_one]
    show (0 * 1 + 0) * 1024 + (j 0).val = (j 0).val
    omega)

end Casts

theorem pay10_apply (v : Vec F S1x1024 .f32) (j : S1x1x1024.Idx) : k0_pay10 v j = v (ix2 0 (j 2)) := by
  unfold k0_pay10
  exact (vecToSlotRow_apply _ _ j).trans (rowToVec_apply v _ (ix1 (j 2)))
theorem pay11_apply (v : Vec F S1x1024 .f32) (j : S1x1x1024.Idx) : k0_pay11 v j = v (ix2 0 (j 2)) := by
  unfold k0_pay11
  exact (vecToSlotRow_apply _ _ j).trans (rowToVec_apply v _ (ix1 (j 2)))

/-! ## Rows of a 2x1024 table -/

theorem row_inb (r : Fin 2) : ∀ a, (![r.val, 0] : Fin 2 → ℕ) a + S1x1024.size a ≤ S2x1024.size a := by revert r; decide

/-- Row `r` of a 2x1024 table. -/
abbrev rowR (r : Fin 2) : Rect S2x1024 := Rect.unit (s := S2x1024) ![r.val, 0] S1x1024.size (row_inb r)

theorem rowR_emb0 (r : Fin 2) (x : S1x1024.Idx) : ((rowR r).emb x 0).val = r.val := by
  rw [Rect.emb_apply]
  have h0 : (x 0).val < 1 := (x 0).isLt
  show r.val + 1 * (x 0).val = r.val
  omega
theorem rowR_emb1 (r : Fin 2) (x : S1x1024.Idx) : ((rowR r).emb x 1).val = (x 1).val := by
  rw [Rect.emb_apply]
  show 0 + 1 * (x 1).val = (x 1).val
  omega
theorem rowR_emb (r : Fin 2) (x : S1x1024.Idx) : (rowR r).emb x = ix2 r (x 1) := by
  funext a
  match a with
  | ⟨0, _⟩ => exact Fin.ext (rowR_emb0 r x)
  | ⟨1, _⟩ => exact Fin.ext (rowR_emb1 r x)

variable {α : Type}

/-- A table with row `r` replaced. -/
def setRow (r : Fin 2) (f : S2x1024.Idx → α) (w : S1x1024.Idx → α) : S2x1024.Idx → α :=
  fun i => if (i 0).val = r.val then w (ix2 0 (i 1)) else f i
/-- Row `r` of a table. -/
def getRow (r : Fin 2) (f : S2x1024.Idx → α) : S1x1024.Idx → α := fun j => f (ix2 r (j 1))
/-- The table of two rows. -/
def twoRows (a b : S1x1024.Idx → α) : S2x1024.Idx → α := fun i => if (i 0).val = 0 then a (ix2 0 (i 1)) else b (ix2 0 (i 1))

theorem row_cases (i : S2x1024.Idx) : (i 0).val = 0 ∨ (i 0).val = 1 := by
  have : (i 0).val < 2 := (i 0).isLt
  omega

theorem setRow_at {r : Fin 2} {f : S2x1024.Idx → α} {w : S1x1024.Idx → α} {i : S2x1024.Idx} (h : (i 0).val = r.val) :
    setRow r f w i = w (ix2 0 (i 1)) := if_pos h
theorem setRow_off {r : Fin 2} {f : S2x1024.Idx → α} {w : S1x1024.Idx → α} {i : S2x1024.Idx} (h : (i 0).val ≠ r.val) :
    setRow r f w i = f i := if_neg h
theorem twoRows_zero {a b : S1x1024.Idx → α} {i : S2x1024.Idx} (h : (i 0).val = 0) : twoRows a b i = a (ix2 0 (i 1)) := if_pos h
theorem twoRows_one {a b : S1x1024.Idx → α} {i : S2x1024.Idx} (h : (i 0).val = 1) : twoRows a b i = b (ix2 0 (i 1)) :=
  if_neg (by rw [h]; decide)

theorem setRow_setRow (f : S2x1024.Idx → α) (a b : S1x1024.Idx → α) : setRow 1 (setRow 0 f a) b = twoRows a b := by
  funext i
  rcases row_cases i with h | h
  · exact (setRow_off (r := 1) (by rw [h]; decide)).trans ((setRow_at (r := 0) h).trans (twoRows_zero h).symm)
  · exact (setRow_at (r := 1) h).trans (twoRows_one h).symm

theorem ix2_row (j : S1x1024.Idx) : ix2 (0 : Fin 1) (j 1) = j := by
  funext a
  match a with
  | ⟨0, _⟩ => exact Fin.ext (by have : (j 0).val < 1 := (j 0).isLt; show 0 = (j 0).val; omega)
  | ⟨1, _⟩ => rfl

theorem getRow_twoRows0 (a b : S1x1024.Idx → α) : getRow 0 (twoRows a b) = a := by
  funext j
  exact (twoRows_zero (i := ix2 0 (j 1)) rfl).trans (congrArg a (ix2_row j))
theorem getRow_twoRows1 (a b : S1x1024.Idx → α) : getRow 1 (twoRows a b) = b := by
  funext j
  exact (twoRows_one (i := ix2 1 (j 1)) rfl).trans (congrArg b (ix2_row j))
theorem getRow_setRow_other (f : S2x1024.Idx → α) (w : S1x1024.Idx → α) : getRow 1 (setRow 0 f w) = getRow 1 f := by
  funext j
  exact setRow_off (r := 0) (i := ix2 1 (j 1)) (show ¬ (1 : ℕ) = 0 by decide)
theorem getRow_setRow_self (r : Fin 2) (f : S2x1024.Idx → α) (w : S1x1024.Idx → α) : getRow r (setRow r f w) = w := by
  funext j
  exact (setRow_at (r := r) (i := ix2 r (j 1)) rfl).trans (congrArg w (ix2_row j))
theorem twoRows_getRow (f : S2x1024.Idx → α) : twoRows (getRow 0 f) (getRow 1 f) = f := by
  funext i
  rcases row_cases i with h | h
  · refine (twoRows_zero h).trans ?_
    exact congrArg f (by funext a; match a with | ⟨0, _⟩ => exact Fin.ext h.symm | ⟨1, _⟩ => rfl)
  · refine (twoRows_one h).trans ?_
    exact congrArg f (by funext a; match a with | ⟨0, _⟩ => exact Fin.ext h.symm | ⟨1, _⟩ => rfl)

omit [FloatOps F] in
/-- A store of row `r` of the running table. -/
theorem acc_write (r : Fin 2) (f : AccBuf F) (w : S1x1024.Idx → Elt F .f32) :
    (accM.access (rowR r) : View sig .tc _ _ _).write (Elt F) f w Finset.univ = setRow r f w := by
  funext i
  show ((View.whole cc0_scratch0).slice (rowR r)).write (Elt F) f w Finset.univ i = setRow r f w i
  by_cases h : (i 0).val = r.val
  · refine Eq.trans ?_ (setRow_at h).symm
    have he : i = ((View.whole cc0_scratch0).slice (rowR r)).emb (ix2 (0 : Fin 1) (i 1)) := by
      refine Eq.trans ?_ (rowR_emb r (ix2 (0 : Fin 1) (i 1))).symm
      funext a
      match a with
      | ⟨0, _⟩ => exact Fin.ext h
      | ⟨1, _⟩ => rfl
    conv_lhs => rw [he]
    rw [View.write_emb_of_mem _ _ (Finset.mem_univ _)]
    rfl
  · refine Eq.trans ?_ (setRow_off h).symm
    refine View.write_of_not_mem _ _ _ ?_
    intro hm
    obtain ⟨x, -, hx⟩ := Finset.mem_map.mp hm
    have hx : (rowR r).emb x = i := hx
    rw [rowR_emb] at hx
    exact h (congrArg Fin.val (congrFun hx.symm 0))

omit [FloatOps F] in
/-- A store of row `r` of the result's staging buffer. -/
theorem out_write (r : Fin 2) (f : (cc0_stg1_0 : Ref sig .tc).ty.Contents (Elt F)) (w : S1x1024.Idx → Elt F .f32) :
    ((Memref.whole cc0_stg1_0 : Memref sig .tc .vmem S2x1024 .f32).access (rowR r) : View sig .tc _ _ _).write (Elt F) f w Finset.univ = setRow r f w := by
  funext i
  show ((View.whole cc0_stg1_0).slice (rowR r)).write (Elt F) f w Finset.univ i = setRow r f w i
  by_cases h : (i 0).val = r.val
  · refine Eq.trans ?_ (setRow_at h).symm
    have he : i = ((View.whole cc0_stg1_0).slice (rowR r)).emb (ix2 (0 : Fin 1) (i 1)) := by
      refine Eq.trans ?_ (rowR_emb r (ix2 (0 : Fin 1) (i 1))).symm
      funext a
      match a with
      | ⟨0, _⟩ => exact Fin.ext h
      | ⟨1, _⟩ => rfl
    conv_lhs => rw [he]
    rw [View.write_emb_of_mem _ _ (Finset.mem_univ _)]
    rfl
  · refine Eq.trans ?_ (setRow_off h).symm
    refine View.write_of_not_mem _ _ _ ?_
    intro hm
    obtain ⟨x, -, hx⟩ := Finset.mem_map.mp hm
    have hx : (rowR r).emb x = i := hx
    rw [rowR_emb] at hx
    exact h (congrArg Fin.val (congrFun hx.symm 0))

omit [FloatOps F] in
/-- A load of row `r` of the running table. -/
theorem acc_read (r : Fin 2) (f : AccBuf F) : accM.view.readAt (Elt F) (rowR r).toLoadRect f = getRow r f := by
  funext j
  rw [View.readAt_rect]
  exact congrArg f (rowR_emb r j)

/-! ## Rows of the exchange buffer -/

theorem srow_inb (k : Fin 4) (r : Fin 2) : ∀ a, (![k.val, r.val, 0] : Fin 3 → ℕ) a + S1x1x1024.size a ≤ S4x2x1024.size a := by
  revert k r; decide

/-- Row `r` of slot `k`. -/
abbrev srowR (k : Fin 4) (r : Fin 2) : Rect S4x2x1024 := Rect.unit (s := S4x2x1024) ![k.val, r.val, 0] S1x1x1024.size (srow_inb k r)

theorem srowR_emb (k : Fin 4) (r : Fin 2) (x : S1x1x1024.Idx) : (srowR k r).emb x = ix3 k r (x 2) := by
  funext a
  have h0 : (x 0).val < 1 := (x 0).isLt
  have h1 : (x 1).val < 1 := (x 1).isLt
  match a with
  | ⟨0, _⟩ => refine Fin.ext ?_; show k.val + 1 * (x 0).val = k.val; omega
  | ⟨1, _⟩ => refine Fin.ext ?_; show r.val + 1 * (x 1).val = r.val; omega
  | ⟨2, _⟩ => refine Fin.ext ?_; show 0 + 1 * (x 2).val = (x 2).val; omega

theorem srow_subset (k : Fin 4) (r : Fin 2) : comM.view.setOn (srowR k r).toLoadRect.set ⊆ slotSet k := by
  intro i hi
  obtain ⟨x, hx, rfl⟩ := Finset.mem_map.mp hi
  have hx : x ∈ (srowR k r).set := hx
  rw [Rect.mem_set_unit] at hx
  have h0 := hx 0
  have e : S1x1x1024.size 0 = 1 := rfl
  simp only [Matrix.cons_val_zero] at h0
  rw [mem_slotSet]
  show (x 0).val = k.val
  omega

theorem srow_access_subset (k : Fin 4) (r : Fin 2) : (comM.access (srowR k r)).setOn Finset.univ ⊆ slotSet k := by
  intro i hi
  obtain ⟨y, -, hy⟩ := Finset.mem_map.mp hi
  rw [mem_slotSet]
  have hy : (srowR k r).emb y = i := hy
  rw [← hy, srowR_emb]

omit [FloatOps F] in
/-- A load of row `r` of slot `k`. -/
theorem com_read (k : Fin 4) (r : Fin 2) (f : ComBuf F) :
    comM.view.readAt (Elt F) (srowR k r).toLoadRect f = fun j => f (ix3 k r (j 2)) := by
  funext j
  rw [View.readAt_rect]
  exact congrArg f (srowR_emb k r j)

omit [FloatOps F] in
/-- A store of row `r` of slot `k`. -/
theorem com_write (k : Fin 4) (r : Fin 2) (f : ComBuf F) (w : S1x1x1024.Idx → Elt F .f32) :
    (comM.access (srowR k r) : View sig .tc _ _ _).write (Elt F) f w Finset.univ
      = fun i => if (i 0).val = k.val ∧ (i 1).val = r.val then w (ix3 0 0 (i 2)) else f i := by
  funext i
  show ((View.whole cc0_scratch1).slice (srowR k r)).write (Elt F) f w Finset.univ i = _
  by_cases h : (i 0).val = k.val ∧ (i 1).val = r.val
  · refine Eq.trans ?_ (if_pos h).symm
    have he : i = ((View.whole cc0_scratch1).slice (srowR k r)).emb (ix3 (0 : Fin 1) (0 : Fin 1) (i 2)) := by
      refine Eq.trans ?_ (srowR_emb k r (ix3 (0 : Fin 1) (0 : Fin 1) (i 2))).symm
      funext a
      match a with
      | ⟨0, _⟩ => exact Fin.ext h.1
      | ⟨1, _⟩ => exact Fin.ext h.2
      | ⟨2, _⟩ => rfl
    conv_lhs => rw [he]
    rw [View.write_emb_of_mem _ _ (Finset.mem_univ _)]
    rfl
  · refine Eq.trans ?_ (if_neg h).symm
    refine View.write_of_not_mem _ _ _ ?_
    intro hm
    obtain ⟨x, -, hx⟩ := Finset.mem_map.mp hm
    have hx : (srowR k r).emb x = i := hx
    rw [srowR_emb] at hx
    exact h ⟨congrArg Fin.val (congrFun hx.symm 0), congrArg Fin.val (congrFun hx.symm 1)⟩

end Cert.ArgMax

end
-- ==== Proof.Contents.lean ====
/-
What the tables of the kernel hold, written over the payloads the kernel computes: the running table of a device
after each block of rows, what the exchange buffer of a device holds once the three copies have arrived, and the
result the device writes.
-/
module

public import proofs.«01_k».proof.Proof.Cells
public import proofs.«01_k».proof.Proof.Rows
public import proofs.«01_k».proof.Proof.Gen.KernelIdeal.Frame

@[expose] public section

set_option maxRecDepth 16384

noncomputable section

namespace Cert.ArgMax

open Cert.KernelIdeal Cert.KernelIdeal.Gen
open Idealize.ShloMosaic
open Idealize.ShloMosaic.TcCoe
open Idealize.ShloMosaic.ValueIdx

variable {F : FTy → Type} [FloatOps F]

variable (m : (ℓ : Loc nD τ sig) → Buf (Elt F) ℓ)

theorem N_eight : cfg0.N = 8 := N_0

/-- The grid point of block `n`. -/
def pt (n : ℕ) : Fin cfg0.N := ⟨n % 8, by rw [N_eight]; exact Nat.mod_lt _ (by decide)⟩

theorem pt_val (t : Fin cfg0.N) : pt t.val = t := by
  have h : t.val < 8 := lt_of_lt_of_eq t.isLt N_eight
  exact Fin.ext (Nat.mod_eq_of_lt h)

/-- Block `n` of device `c`'s rows. -/
def blk (c : Dev nD) (n : ℕ) : Vec F S256x1024 .f32 := iblk m c 0 (pt n)

/-- The running table of device `c` after block `n`: taken from block 0, then updated block by block. -/
def accV (c : Dev nD) : ℕ → AccBuf F
  | 0 => twoRows (k0_pay4 (blk m c 0)) (k0_pay5 (grid0.coords (pt 0)) c (blk m c 0))
  | n + 1 => twoRows (k0_pay8 (blk m c (n + 1)) (getRow 0 (accV c n)))
      (k0_pay9 (grid0.coords (pt (n + 1))) c (blk m c (n + 1)) (getRow 0 (accV c n)) (getRow 1 (accV c n)))

/-- The device whose table lands in slot `k` of `c`: the one `k` places before. -/
def source (c : Dev nD) (k : ℕ) : Dev nD := ⟨(c.val + 4 - k % 4) % 4, Nat.mod_lt _ (by decide)⟩

theorem source_zero (c : Dev nD) : source c 0 = c := by revert c; decide
theorem source_peer (c : Dev nD) (j : Fin 3) : source (peer c j) (j.val + 1) = c := by revert c j; decide

/-- The exchange buffer holding, in slot `k`, the table of the device `k` places before. -/
def gathered (T : Dev nD → AccBuf F) (c : Dev nD) : ComBuf F := fun i => T (source c (i 0).val) (ix2 (i 1) (i 2))

omit [FloatOps F] in
theorem gathered_at (T : Dev nD → AccBuf F) (c : Dev nD) {i : S4x2x1024.Idx} {k : ℕ} (h : (i 0).val = k) :
    gathered T c i = T (source c k) (ix2 (i 1) (i 2)) := by
  subst h; rfl

omit [FloatOps F] in
/-- Every copy carries the sender's table into the slot where the receiver's buffer holds it. -/
theorem gathered_copies (T : Dev nD → AccBuf F) (c : Dev nD) (j : Fin 3) : Copies (slotUp j) (gathered T c) (gathered T (peer c j)) := by
  intro i i' h0 h0' h1 h2
  refine (gathered_at T c h0).trans (Eq.trans ?_ (gathered_at T (peer c j) (h0'.trans (show (slotUp j).val = j.val + 1 from rfl))).symm)
  rw [source_zero, source_peer]
  refine congrArg (T c) ?_
  funext a
  match a with
  | ⟨0, _⟩ => exact Fin.ext h1
  | ⟨1, _⟩ => exact Fin.ext h2

/-- The exchange buffer of device `c` in the end. -/
def comF (c : Dev nD) : ComBuf F := gathered (fun d => accV m d 7) c

/-- Row `r` of slot `k`, as loaded. -/
def slotRow (C : ComBuf F) (k : Fin 4) (r : Fin 2) : Vec F S1x1x1024 .f32 := fun j => C (ix3 k r (j 2))

/-- The maxima and the row numbers over the first three slots. -/
def three0 (C : ComBuf F) : FVec F S1024 .f32 :=
  k0_pay24 (k0_pay12 (slotRow C 0 0)) (k0_pay13 (slotRow C 0 1)) (k0_pay14 (slotRow C 1 0)) (k0_pay15 (slotRow C 1 1))
    (k0_pay16 (slotRow C 0 0) (slotRow C 1 0)) (k0_pay17 (slotRow C 0 0) (slotRow C 1 0)) (slotRow C 2 0) (slotRow C 2 1)
def three1 (C : ComBuf F) : FVec F S1024 .f32 :=
  k0_pay25 (k0_pay12 (slotRow C 0 0)) (k0_pay13 (slotRow C 0 1)) (k0_pay14 (slotRow C 1 0)) (k0_pay15 (slotRow C 1 1))
    (k0_pay16 (slotRow C 0 0) (slotRow C 1 0)) (k0_pay17 (slotRow C 0 0) (slotRow C 1 0)) (slotRow C 2 0) (slotRow C 2 1)

/-- The table a device writes from the four slots. -/
def combine (C : ComBuf F) : S2x1024.Idx → Elt F .f32 :=
  twoRows (k0_pay29 (three0 C) (three1 C) (slotRow C 3 0) (slotRow C 3 1)) (k0_pay30 (three0 C) (three1 C) (slotRow C 3 0) (slotRow C 3 1))

/-- The result of device `c`. -/
def outF (c : Dev nD) : S2x1024.Idx → Elt F .f32 := combine (comF m c)

/-- The two stores into slot 0 leave there what the exchange buffer of `c` holds in the end. -/
theorem stored_slot0 (c : Dev nD) (f : ComBuf F) (T : Dev nD → AccBuf F) :
    ∀ i ∈ slotSet 0,
      (comM.access (srowR 0 1) : View sig .tc _ _ _).write (Elt F)
        ((comM.access (srowR 0 0) : View sig .tc _ _ _).write (Elt F) f (k0_pay10 (getRow 0 (T c))) Finset.univ)
        (k0_pay11 (getRow 1 (T c))) Finset.univ i = gathered T c i := by
  intro i hi
  have h0 : (i 0).val = 0 := (mem_slotSet 0 i).mp hi
  have h1 : (i 1).val < 2 := (i 1).isLt
  rw [com_write, com_write]
  refine Eq.trans ?_ (gathered_at T c h0).symm
  rw [source_zero]
  by_cases h : (i 1).val = 1
  · refine (if_pos ⟨h0, h⟩).trans ?_
    rw [pay11_apply]
    refine congrArg (T c) ?_
    funext a
    match a with
    | ⟨0, _⟩ => exact Fin.ext h.symm
    | ⟨1, _⟩ => rfl
  · refine (if_neg fun h' => h h'.2).trans ((if_pos ⟨h0, show (i 1).val = 0 by omega⟩).trans ?_)
    rw [pay10_apply]
    refine congrArg (T c) ?_
    funext a
    match a with
    | ⟨0, _⟩ => exact Fin.ext (show 0 = (i 1).val by omega)
    | ⟨1, _⟩ => rfl

end Cert.ArgMax

end
-- ==== Proof.Phases.lean ====
/-
What a device holds before the first block of rows, between two blocks, and after the last; the conditions of the
kernel's branches; and the loads and stores of rows in the form the kernel writes them.
-/
module

public import proofs.«01_k».proof.Proof.Steps
public import proofs.«01_k».proof.Proof.Contents

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Holdings -/

/-- The running table of `c`, holding `f`. -/
def accPts (c : Dev nD) (f : AccBuf F) : sProp 𝕄 := ((c : Thread nD τ).loc cc0_scratch0) ↦{fullShare} f
/-- The exchange buffer of `c`, holding `f`. -/
def comPts (c : Dev nD) (f : ComBuf F) : sProp 𝕄 := ((c : Thread nD τ).loc cc0_scratch1) ↦{fullShare} f

/-- What copy `j` of `c` and the arrival of copy `j` at `c` need: the tokens of the two ends of the copy, the places on
    the two semaphores, the credit of the arrival. -/
def copyKit (c : Dev nD) (j : Fin 3) : sProp 𝕄 :=
  iprop(dutyTok ER (sendCell c j) 0 0 ∗ dutyTok ER (recvCell (peer c j) j) 0 0
    ∗ atPos ER (sendCell c j) 0 ∅ 0 ∗ atPos ER (recvCell c j) 0 ∅ 0 ∗ cred (tallyAt (recvCell c j) () N))
def copyKits (c : Dev nD) : sProp 𝕄 := iprop(copyKit c 0 ∗ copyKit c 1 ∗ copyKit (F := F) c 2)

/-- What the barrier needs: the tokens of the three signals, the place on the own barrier and its credit. -/
def barKit (c : Dev nD) : sProp 𝕄 :=
  iprop(dutyTok ER (barCell (peer c 0)) 0 (Fin.rev 0) ∗ dutyTok ER (barCell (peer c 1)) 0 (Fin.rev 1) ∗ dutyTok ER (barCell (peer c 2)) 0 (Fin.rev 2)
    ∗ atPos ER (barCell c) 0 ∅ 0 ∗ cred (tallyAt (barCell c) () 3))

variable (C : Dev nD → ComBuf F)

/-- Before the first block. -/
def phaseStart (c : Dev nD) : sProp 𝕄 := iprop(levAts L lv ∗ (∃ K, records C K ∗ copyKits c) ∗ barKit c)
/-- What the barrier has brought: the three slots to copy into; and the own slot 0. -/
def opened (c : Dev nD) : sProp 𝕄 :=
  iprop(semVal (barCell c) 0 ∗ barPay c 0 ∗ barPay c 1 ∗ barPay c 2 ∗ ∃ f : ComBuf F, slotPts c 0 fullShare f)
/-- Between two blocks. -/
def phaseMid (c : Dev nD) : sProp 𝕄 := iprop(levAts L lv ∗ (∃ K, records C K ∗ copyKits c) ∗ opened (F := F) c)
/-- Copy `j` and the arrival of copy `j` are over. -/
def copied (c : Dev nD) (j : Fin 3) : sProp 𝕄 := iprop(semVal (sendCell c j) 0 ∗ semVal (recvCell c j) 0)
/-- After the last block. -/
def phaseEnd (c : Dev nD) : sProp 𝕄 :=
  iprop(comPts c (C c) ∗ semVal (barCell c) 0 ∗ copied c 0 ∗ copied c 1 ∗ copied (F := F) c 2)

/-! ## The exchange buffer and its slots -/

omit [FloatOps F] in
theorem bigSep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

omit [FloatOps F] in
/-- The exchange buffer is its four slots. -/
theorem comPts_slots (c : Dev nD) (f : ComBuf F) :
    (comPts c f : sProp 𝕄) = iprop(slotPts c 0 fullShare f ∗ slotPts c 1 fullShare f ∗ slotPts c 2 fullShare f ∗ slotPts c 3 fullShare f) := by
  have h := pointsTo_biUnion (Ix := Unit) (Name := ℕ) (U := UU) (Lvl := ℕ) (ℓ := (c : Thread nD τ).loc cc0_scratch1) (q := fullShare) (f := f)
    (Finset.univ : Finset (Fin 4)) slotSet (fun a _ b _ hab => slot_disjoint hab)
  rw [bigSep_fin4] at h
  unfold comPts slotPts
  refine Eq.trans ?_ h
  rw [slot_cover]

/-! ## Branch conditions -/

theorem cond1_pos (i : grid0.Coords) (h : (i 0).val = 0) : k0_cond1 i = 1#1 := by
  have : ∀ i : grid0.Coords, (i 0).val = 0 → k0_cond1 i = 1#1 := by decide +kernel
  exact this i h
theorem cond1_neg (i : grid0.Coords) (h : (i 0).val ≠ 0) : ¬ k0_cond1 i = 1#1 := by
  have : ∀ i : grid0.Coords, (i 0).val ≠ 0 → ¬ k0_cond1 i = 1#1 := by decide +kernel
  exact this i h
theorem cond2_pos (i : grid0.Coords) (h : (i 0).val = 0) :
    Scalar.cmpi .ne (Scalar.extui (Scalar.cmpi .eq (BitVec.ofNat 32 (i 0).val) 0#32) : BitVec 32) 0#32 = 1#1 := by
  rw [h]; decide
theorem cond2_neg (i : grid0.Coords) (h : (i 0).val ≠ 0) :
    ¬ Scalar.cmpi .ne (Scalar.extui (Scalar.cmpi .eq (BitVec.ofNat 32 (i 0).val) 0#32) : BitVec 32) 0#32 = 1#1 := by
  have : ∀ i : grid0.Coords, (i 0).val ≠ 0 →
    ¬ Scalar.cmpi .ne (Scalar.extui (Scalar.cmpi .eq (BitVec.ofNat 32 (i 0).val) 0#32) : BitVec 32) 0#32 = 1#1 := by decide +kernel
  exact this i h
theorem cond3_neg (i : grid0.Coords) (h : (i 0).val = 0) :
    ¬ Scalar.cmpi .ne (Scalar.extui (Scalar.cmpi .sgt (BitVec.ofNat 32 (i 0).val) 0#32) : BitVec 32) 0#32 = 1#1 := by
  rw [h]; decide
theorem cond3_pos (i : grid0.Coords) (h : (i 0).val ≠ 0) :
    Scalar.cmpi .ne (Scalar.extui (Scalar.cmpi .sgt (BitVec.ofNat 32 (i 0).val) 0#32) : BitVec 32) 0#32 = 1#1 := by
  have : ∀ i : grid0.Coords, (i 0).val ≠ 0 →
    Scalar.cmpi .ne (Scalar.extui (Scalar.cmpi .sgt (BitVec.ofNat 32 (i 0).val) 0#32) : BitVec 32) 0#32 = 1#1 := by decide +kernel
  exact this i h
theorem cond4_pos (i : grid0.Coords) (h : (i 0).val = 7) : k0_cond4 i = 1#1 := by
  have : ∀ i : grid0.Coords, (i 0).val = 7 → k0_cond4 i = 1#1 := by decide +kernel
  exact this i h
theorem cond4_neg (i : grid0.Coords) (h : (i 0).val ≠ 7) : ¬ k0_cond4 i = 1#1 := by
  have : ∀ i : grid0.Coords, (i 0).val ≠ 7 → ¬ k0_cond4 i = 1#1 := by decide +kernel
  exact this i h

theorem coords_val (t : Fin cfg0.N) : (grid0.coords t 0).val = t.val := by
  have : ∀ t : Fin grid0.N, (grid0.coords t 0).val = t.val := by decide +kernel
  exact this t

/-! ## Loads and stores as the kernel writes them -/

omit [FloatOps F] in
theorem acc_read0 (f : AccBuf F) : accM.view.readAt (Elt F) (Rect.unit (s := S2x1024) ![0, 0] S1x1024.size inb_S2x1024_S1x1024_0_0).toLoadRect f = getRow 0 f :=
  acc_read 0 f
omit [FloatOps F] in
theorem acc_read1 (f : AccBuf F) : accM.view.readAt (Elt F) (Rect.unit (s := S2x1024) ![1, 0] S1x1024.size inb_S2x1024_S1x1024_1_0).toLoadRect f = getRow 1 f :=
  acc_read 1 f
omit [FloatOps F] in
theorem acc_write0 (f : AccBuf F) (w : S1x1024.Idx → Elt F .f32) :
    (accM.access (Rect.unit (s := S2x1024) ![0, 0] S1x1024.size inb_S2x1024_S1x1024_0_0) : View sig .tc _ _ _).write (Elt F) f w Finset.univ = setRow 0 f w :=
  acc_write 0 f w
omit [FloatOps F] in
theorem acc_write1 (f : AccBuf F) (w : S1x1024.Idx → Elt F .f32) :
    (accM.access (Rect.unit (s := S2x1024) ![1, 0] S1x1024.size inb_S2x1024_S1x1024_1_0) : View sig .tc _ _ _).write (Elt F) f w Finset.univ = setRow 1 f w :=
  acc_write 1 f w

theorem full_inb : ∀ a, (![0, 0] : Fin 2 → ℕ) a = 0 := by decide

omit [FloatOps F] in
/-- A load of a whole block. -/
theorem block_read (M : Memref sig .tc .vmem S256x1024 .f32) (f : M.view.ref.ty.Contents (Elt F)) :
    M.view.readAt (Elt F) (Rect.unit (s := S256x1024) ![0, 0] S256x1024.size inb_S256x1024_S256x1024_0_0).toLoadRect f = M.view.read (Elt F) f := by
  funext j
  rw [View.readAt_rect]
  refine congrArg (M.view.read (Elt F) f) ?_
  funext a
  refine Fin.ext ?_
  rw [Rect.emb_apply]
  show (![0, 0] : Fin 2 → ℕ) a + 1 * (j a).val = (j a).val
  rw [full_inb a]; omega

theorem block_subset (M : Memref sig .tc .vmem S256x1024 .f32) (s : Finset S256x1024.Idx) : M.view.setOn s ⊆ M.view.set := by
  intro x hx
  obtain ⟨y, -, rfl⟩ := Finset.mem_map.mp hx
  exact Finset.mem_map.mpr ⟨y, Finset.mem_univ _, rfl⟩

end Cert.ArgMax

end
-- ==== Proof.BodyFirst.lean ====
/-
The kernel at the first block of rows: three signals, the wait at the barrier, and the first running table.
-/
module

public import proofs.«01_k».proof.Proof.Phases

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (C : Dev nD → ComBuf F)

/-- The kernel on a block of rows `B` at a point `i`, run on device `c`. -/
abbrev kernelAt (i : grid0.Coords) (M : Memref sig .tc .vmem S256x1024 .f32) (hM : M.IsWhole) (M' : Memref sig .tc .vmem S2x1024 .f32) (hM' : M'.IsWhole) :
    Prog (TpuEff nD τ sig (Elt F) Λ₀ .tc) PUnit :=
  cc0_body i M hM M' hM' (Memref.whole cc0_scratch0) (Memref.isWhole_whole _) (Memref.whole cc0_scratch1) (Memref.isWhole_whole _) cc0_scratch2 cc0_scratch3

/-- A block of rows held in `M`. -/
abbrev blockPts (c : Dev nD) (M : Memref sig .tc .vmem S256x1024 .f32) (g : M.view.ref.ty.Contents (Elt F)) : sProp 𝕄 :=
  M.view.loc (c : Thread nD τ) ↦[M.view.set]{fullShare} g

set_option maxHeartbeats 1600000 in
theorem body_first (c : Dev nD) (i : grid0.Coords) (hi : (i 0).val = 0)
    (M : Memref sig .tc .vmem S256x1024 .f32) (hM : M.IsWhole) (M' : Memref sig .tc .vmem S2x1024 .f32) (hM' : M'.IsWhole)
    (g : M.view.ref.ty.Contents (Elt F)) (f0 : AccBuf F) (f1 : ComBuf F) (Q : PUnit → sProp 𝕄) :
    iprop(phaseStart C c ∗ owing c (O₀ c) ∗ blockPts c M g ∗ accPts c f0 ∗ comPts c f1)
      ⊢ iprop(((phaseMid C c ∗ owing (F := F) c (O₁ c) ∗ blockPts c M g
            ∗ accPts c (twoRows (k0_pay4 (M.view.read (Elt F) g)) (k0_pay5 i c (M.view.read (Elt F) g)))) -∗ Q ⟨⟩)
          -∗ runs (F := F) c (kernelAt i M hM M' hM') Q) := by
  unfold kernelAt
  simp only [cc0_body_eq_skeleton]; unfold cc0_body_skel
  simp only [dif_pos (cond1_pos i hi), dif_pos (cond2_pos i hi), dif_neg (cond3_neg i hi), dif_neg (cond4_neg i (by rw [hi]; decide))]
  simp only [k0_part1_eq_skeleton]; unfold k0_part1_skel
  simp only [semSignalWord, semWaitWord, Prog.lift, Prog.bind_op, Prog.bind_ret, Prog.pure_eq_ret, wp_deviceId]
  simp only [dev1_eq c, dev2_eq c, dev3_eq c]
  unfold phaseStart barKit
  iintro ⟨⟨#Hlev, ⟨%K, #HR, Hkits⟩, ⟨HtA, HtB, HtC, Hat, Hc⟩⟩, HO, Hx, Hacc, Hcom⟩ Hk
  ihave Hs := (Entails.of_eq (comPts_slots c f1)) $$ Hcom
  icases Hs with ⟨Hs0, Hs1, Hs2, Hs3⟩
  iapply (signal_step C K c 0 (O₀ c) (O₁ c + tallyAt (barCell (peer c 2)) () 1 + tallyAt (barCell (peer c 1)) () 1) rfl) $$ [HO HtA Hs3]
  · isplitr; · iexact HR
    isplitl [HO]; · iexact HO
    isplitl [HtA]; · iexact HtA
    iexists f1; iexact Hs3
  iintro HO
  iapply (signal_step C K c 1 _ (O₁ c + tallyAt (barCell (peer c 2)) () 1) rfl) $$ [HO HtB Hs2]
  · isplitr; · iexact HR
    isplitl [HO]; · iexact HO
    isplitl [HtB]; · iexact HtB
    iexists f1; iexact Hs2
  iintro HO
  iapply (signal_step C K c 2 _ (O₁ c) rfl) $$ [HO HtC Hs1]
  · isplitr; · iexact HR
    isplitl [HO]; · iexact HO
    isplitl [HtC]; · iexact HtC
    iexists f1; iexact Hs1
  iintro HO
  iapply (barrier_step C K c) $$ [HO Hat Hc]
  · isplitr; · iexact HR
    isplitl [Hc]; · iexact Hc
    isplitl [HO]; · iexact HO
    isplitr; · iexact Hlev
    iexact Hat
  iintro ⟨HO, Hz, Hp0, Hp1, Hp2⟩
  iapply (wp_load 𝒱₀ (c : Thread nD τ) none Set.univ (m := M) (block_subset M _)) $$ Hx; iintro Hx
  rw [block_read]
  unfold accPts
  iapply (wp_load 𝒱₀ (c : Thread nD τ) none Set.univ (m := accM) (Finset.subset_univ _)) $$ Hacc; iintro Hacc
  iapply (wp_store 𝒱₀ (c : Thread nD τ) none Set.univ (m := accM) (r := Rect.unit (s := S2x1024) ![0, 0] S1x1024.size inb_S2x1024_S1x1024_0_0) (Mk := Finset.univ) (Finset.subset_univ _)) $$ Hacc; iintro Hacc
  rw [acc_write0]
  iapply (wp_load 𝒱₀ (c : Thread nD τ) none Set.univ (m := accM) (Finset.subset_univ _)) $$ Hacc; iintro Hacc
  iapply (wp_store 𝒱₀ (c : Thread nD τ) none Set.univ (m := accM) (r := Rect.unit (s := S2x1024) ![1, 0] S1x1024.size inb_S2x1024_S1x1024_1_0) (Mk := Finset.univ) (Finset.subset_univ _)) $$ Hacc; iintro Hacc
  rw [acc_write1, setRow_setRow, wp_ret]; imodintro
  iapply Hk
  unfold phaseMid opened
  isplitl [Hkits Hz Hp0 Hp1 Hp2 Hs0]
  · isplitr; · iexact Hlev
    isplitl [Hkits]
    · iexists K
      isplitr; · iexact HR
      iexact Hkits
    isplitl [Hz]; · iexact Hz
    isplitl [Hp0]; · iexact Hp0
    isplitl [Hp1]; · iexact Hp1
    isplitl [Hp2]; · iexact Hp2
    iexists f1; iexact Hs0
  isplitl [HO]; · iexact HO
  isplitl [Hx]; · iexact Hx
  iexact Hacc

end Cert.ArgMax

end
-- ==== Proof.BodyLater.lean ====
/-
The kernel at a later block of rows: the running table taken on by one block; and, after the last block, the three
copies, their arrivals, and the table written from the four slots.
-/
module

public import proofs.«01_k».proof.Proof.BodyFirst

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- The running table `f` taken on by the block `B`. -/
abbrev nextAcc (i : grid0.Coords) (c : Dev nD) (B : Vec F S256x1024 .f32) (f : AccBuf F) : AccBuf F :=
  twoRows (k0_pay8 B (getRow 0 f)) (k0_pay9 i c B (getRow 0 f) (getRow 1 f))

set_option maxHeartbeats 1600000 in
/-- Neither first nor last. -/
theorem body_mid (c : Dev nD) (i : grid0.Coords) (hi : (i 0).val ≠ 0) (hi' : (i 0).val ≠ 7)
    (M : Memref sig .tc .vmem S256x1024 .f32) (hM : M.IsWhole) (M' : Memref sig .tc .vmem S2x1024 .f32) (hM' : M'.IsWhole)
    (g : M.view.ref.ty.Contents (Elt F)) (f : AccBuf F) (Q : PUnit → sProp 𝕄) :
    iprop(blockPts c M g ∗ accPts c f)
      ⊢ iprop(((blockPts c M g ∗ accPts c (nextAcc i c (M.view.read (Elt F) g) f)) -∗ Q ⟨⟩) -∗ runs (F := F) c (kernelAt i M hM M' hM') Q) := by
  unfold kernelAt
  simp only [cc0_body_eq_skeleton]; unfold cc0_body_skel
  simp only [dif_neg (cond1_neg i hi), dif_neg (cond2_neg i hi), dif_pos (cond3_pos i hi), dif_neg (cond4_neg i hi')]
  simp only [Prog.lift, Prog.bind_op, Prog.bind_ret, Prog.pure_eq_ret, wp_deviceId]
  iintro ⟨Hx, Hacc⟩ Hk
  iapply (wp_load 𝒱₀ (c : Thread nD τ) none Set.univ (m := M) (block_subset M _)) $$ Hx; iintro Hx
  rw [block_read]
  unfold accPts
  iapply (wp_load 𝒱₀ (c : Thread nD τ) none Set.univ (m := accM) (Finset.subset_univ _)) $$ Hacc; iintro Hacc
  rw [acc_read0]
  iapply (wp_load 𝒱₀ (c : Thread nD τ) none Set.univ (m := accM) (Finset.subset_univ _)) $$ Hacc; iintro Hacc
  iapply (wp_store 𝒱₀ (c : Thread nD τ) none Set.univ (m := accM) (r := Rect.unit (s := S2x1024) ![0, 0] S1x1024.size inb_S2x1024_S1x1024_0_0) (Mk := Finset.univ) (Finset.subset_univ _)) $$ Hacc; iintro Hacc
  rw [acc_write0]
  iapply (wp_load 𝒱₀ (c : Thread nD τ) none Set.univ (m := accM) (Finset.subset_univ _)) $$ Hacc; iintro Hacc
  rw [acc_read1, getRow_setRow_other]
  iapply (wp_load 𝒱₀ (c : Thread nD τ) none Set.univ (m := accM) (Finset.subset_univ _)) $$ Hacc; iintro Hacc
  iapply (wp_store 𝒱₀ (c : Thread nD τ) none Set.univ (m := accM) (r := Rect.unit (s := S2x1024) ![1, 0] S1x1024.size inb_S2x1024_S1x1024_1_0) (Mk := Finset.univ) (Finset.subset_univ _)) $$ Hacc; iintro Hacc
  rw [acc_write1, setRow_setRow, wp_ret]; imodintro
  iapply Hk
  isplitl [Hx]; · iexact Hx
  iexact Hacc

/-- A load of row `r` of slot `k` of the exchange buffer, the slot held at any share. -/
theorem slot_load {α : Type} {Q : α → sProp 𝕄} (k : Fin 4) (r : Fin 2) (c : Dev nD) (q : PosShare TreeShare) (f : ComBuf F)
    {h : View.LoadsAt comM.view (srowR k r).toLoadRect}
    {k' : (Vec F S1x1x1024 .f32) → Prog (TpuEff nD τ sig (Elt F) Λ₀ .tc) α} :
    slotPts c k q f ⊢ iprop((slotPts c k q f -∗ runs (F := F) c (k' (slotRow f k r)) Q)
      -∗ runs (F := F) c (.op (.load comM (srowR k r).toLoadRect h) k') Q) := by
  unfold slotPts
  rw [show slotRow f k r = comM.view.readAt (Elt F) (srowR k r).toLoadRect f from (com_read k r f).symm]
  exact wp_load 𝒱₀ (c : Thread nD τ) none Set.univ (m := comM) (srow_subset k r)

/-- The result's staging buffer. -/
abbrev outM : Memref sig .tc .vmem S2x1024 .f32 := Memref.whole cc0_stg1_0
def outPts (c : Dev nD) (f : (cc0_stg1_0 : Ref sig .tc).ty.Contents (Elt F)) : sProp 𝕄 := ((c : Thread nD τ).loc cc0_stg1_0) ↦{fullShare} f

omit [FloatOps F] in
theorem out_write0 (f : (cc0_stg1_0 : Ref sig .tc).ty.Contents (Elt F)) (w : S1x1024.Idx → Elt F .f32) :
    (outM.access (Rect.unit (s := S2x1024) ![0, 0] S1x1024.size inb_S2x1024_S1x1024_0_0) : View sig .tc _ _ _).write (Elt F) f w Finset.univ = setRow 0 f w :=
  out_write 0 f w
omit [FloatOps F] in
theorem out_write1 (f : (cc0_stg1_0 : Ref sig .tc).ty.Contents (Elt F)) (w : S1x1024.Idx → Elt F .f32) :
    (outM.access (Rect.unit (s := S2x1024) ![1, 0] S1x1024.size inb_S2x1024_S1x1024_1_0) : View sig .tc _ _ _).write (Elt F) f w Finset.univ = setRow 1 f w :=
  out_write 1 f w

/-- The DMA semaphores the kernel names. -/
theorem send_sem0 : csem (sendK 0) = .dma ((cc0_scratch2.slice (Rect.unit (s := S3) ![0] S1.size inb_S3_S1_0)).squeeze S_ squeezes_S1_S_).sem := by decide
theorem send_sem1 : csem (sendK 1) = .dma ((cc0_scratch2.slice (Rect.unit (s := S3) ![1] S1.size inb_S3_S1_1)).squeeze S_ squeezes_S1_S_).sem := by decide
theorem send_sem2 : csem (sendK 2) = .dma ((cc0_scratch2.slice (Rect.unit (s := S3) ![2] S1.size inb_S3_S1_2)).squeeze S_ squeezes_S1_S_).sem := by decide
theorem recv_sem0 : csem (recvK 0) = .dma ((cc0_scratch3.slice (Rect.unit (s := S3) ![0] S1.size inb_S3_S1_0)).squeeze S_ squeezes_S1_S_).sem := by decide
theorem recv_sem1 : csem (recvK 1) = .dma ((cc0_scratch3.slice (Rect.unit (s := S3) ![1] S1.size inb_S3_S1_1)).squeeze S_ squeezes_S1_S_).sem := by decide
theorem recv_sem2 : csem (recvK 2) = .dma ((cc0_scratch3.slice (Rect.unit (s := S3) ![2] S1.size inb_S3_S1_2)).squeeze S_ squeezes_S1_S_).sem := by decide

set_option maxHeartbeats 3200000 in
/-- The last block: `T` says what tables the devices exchange. -/
theorem body_last (T : Dev nD → AccBuf F) (c : Dev nD) (i : grid0.Coords) (hi : (i 0).val = 7)
    (M : Memref sig .tc .vmem S256x1024 .f32) (hM : M.IsWhole) (hM' : outM.IsWhole)
    (g : M.view.ref.ty.Contents (Elt F)) (f : AccBuf F) (hT : nextAcc i c (M.view.read (Elt F) g) f = T c)
    (d : (cc0_stg1_0 : Ref sig .tc).ty.Contents (Elt F)) (Q : PUnit → sProp 𝕄) :
    iprop(phaseMid (gathered T) c ∗ owing c (O₁ c) ∗ blockPts c M g ∗ accPts c f ∗ outPts c d)
      ⊢ iprop(((phaseEnd (gathered T) c ∗ owing (F := F) c 0 ∗ blockPts c M g ∗ accPts c (T c) ∗ outPts c (combine (gathered T c))) -∗ Q ⟨⟩)
          -∗ runs (F := F) c (kernelAt i M hM outM hM') Q) := by
  unfold kernelAt
  simp only [cc0_body_eq_skeleton]; unfold cc0_body_skel
  have hi0 : (i 0).val ≠ 0 := by rw [hi]; decide
  simp only [dif_neg (cond1_neg i hi0), dif_neg (cond2_neg i hi0), dif_pos (cond3_pos i hi0), dif_pos (cond4_pos i hi)]
  simp only [k0_part2_eq_skeleton, k0_part3_eq_skeleton, k0_part4_eq_skeleton, k0_part5_eq_skeleton, k0_part6_eq_skeleton]
  unfold k0_part2_skel k0_part3_skel k0_part4_skel k0_part5_skel k0_part6_skel
  simp only [Prog.lift, Prog.bind_op, Prog.bind_ret, Prog.pure_eq_ret, wp_deviceId]
  unfold phaseMid opened copyKits copyKit
  iintro ⟨⟨#Hlev, ⟨%K, #HR, ⟨⟨HtS0, HtR0, HaS0, HaR0, HcR0⟩, ⟨HtS1, HtR1, HaS1, HaR1, HcR1⟩, ⟨HtS2, HtR2, HaS2, HaR2, HcR2⟩⟩⟩, Hz, Hp0, Hp1, Hp2, ⟨%fc, Hs0⟩⟩,
    HO, Hx, Hacc, Hout⟩ Hk
  iapply (wp_load 𝒱₀ (c : Thread nD τ) none Set.univ (m := M) (block_subset M _)) $$ Hx; iintro Hx
  rw [block_read]
  unfold accPts outPts
  iapply (wp_load 𝒱₀ (c : Thread nD τ) none Set.univ (m := accM) (Finset.subset_univ _)) $$ Hacc; iintro Hacc
  rw [acc_read0]
  iapply (wp_load 𝒱₀ (c : Thread nD τ) none Set.univ (m := accM) (Finset.subset_univ _)) $$ Hacc; iintro Hacc
  iapply (wp_store 𝒱₀ (c : Thread nD τ) none Set.univ (m := accM) (r := Rect.unit (s := S2x1024) ![0, 0] S1x1024.size inb_S2x1024_S1x1024_0_0) (Mk := Finset.univ) (Finset.subset_univ _)) $$ Hacc; iintro Hacc
  rw [acc_write0]
  iapply (wp_load 𝒱₀ (c : Thread nD τ) none Set.univ (m := accM) (Finset.subset_univ _)) $$ Hacc; iintro Hacc
  rw [acc_read1, getRow_setRow_other]
  iapply (wp_load 𝒱₀ (c : Thread nD τ) none Set.univ (m := accM) (Finset.subset_univ _)) $$ Hacc; iintro Hacc
  iapply (wp_store 𝒱₀ (c : Thread nD τ) none Set.univ (m := accM) (r := Rect.unit (s := S2x1024) ![1, 0] S1x1024.size inb_S2x1024_S1x1024_1_0) (Mk := Finset.univ) (Finset.subset_univ _)) $$ Hacc; iintro Hacc
  rw [acc_write1, setRow_setRow]
  rw [show twoRows (k0_pay8 (M.view.read (Elt F) g) (getRow 0 f)) (k0_pay9 i c (M.view.read (Elt F) g) (getRow 0 f) (getRow 1 f)) = T c from hT]
  ihave Hs0 := (Entails.of_eq (show slotPts c 0 fullShare fc = (((c : Thread nD τ).loc cc0_scratch1) ↦[slotSet 0]{fullShare} fc : sProp 𝕄) from rfl)) $$ Hs0
  iapply (wp_load 𝒱₀ (c : Thread nD τ) none Set.univ (m := accM) (Finset.subset_univ _)) $$ Hacc; iintro Hacc
  rw [acc_read0]
  iapply (wp_load 𝒱₀ (c : Thread nD τ) none Set.univ (m := comM) (srow_subset 0 0)) $$ Hs0; iintro Hs0
  iapply (wp_store 𝒱₀ (c : Thread nD τ) none Set.univ (m := comM) (r := srowR 0 0) (Mk := Finset.univ) (srow_access_subset 0 0)) $$ Hs0; iintro Hs0
  iapply (wp_load 𝒱₀ (c : Thread nD τ) none Set.univ (m := accM) (Finset.subset_univ _)) $$ Hacc; iintro Hacc
  rw [acc_read1]
  iapply (wp_load 𝒱₀ (c : Thread nD τ) none Set.univ (m := comM) (srow_subset 0 1)) $$ Hs0; iintro Hs0
  iapply (wp_store 𝒱₀ (c : Thread nD τ) none Set.univ (m := comM) (r := srowR 0 1) (Mk := Finset.univ) (srow_access_subset 0 1)) $$ Hs0; iintro Hs0
  ihave Hs0 := (Entails.of_eq (show _ = slotPts c 0 fullShare (gathered T c) from pointsTo_congr (stored_slot0 c fc T))) $$ Hs0
  ihave Hq := (slot0_quarters c 0 (gathered T c)).mp $$ Hs0
  icases Hq with ⟨⟨Hq0, Hq1⟩, Hq2, Hq3⟩
  have hC : ∀ (c : Dev nD) (j : Fin 3), Copies (slotUp j) (gathered T c) (gathered T (peer c j)) := gathered_copies T
  iapply (send_step (gathered T) K hC c 0 _ _ send_sem0 recv_sem0 (O₁ c) (tallyAt (recvCell (peer c 2) 2) () N + tallyAt (recvCell (peer c 1) 1) () N) rfl _ (dev4_eq c _)) $$ [Hq0 Hp0 HO HtS0 HtR0]
  · isplitr; · iexact HR
    isplitl [Hq0]; · iexact Hq0
    isplitl [Hp0]; · iexact Hp0
    isplitl [HO]; · iexact HO
    isplitl [HtS0]; · iexact HtS0
    iexact HtR0
  iintro ⟨HcS0, HO⟩
  iapply (send_step (gathered T) K hC c 1 _ _ send_sem1 recv_sem1 _ (tallyAt (recvCell (peer c 2) 2) () N) rfl _ (dev5_eq c _)) $$ [Hq1 Hp1 HO HtS1 HtR1]
  · isplitr; · iexact HR
    isplitl [Hq1]; · iexact Hq1
    isplitl [Hp1]; · iexact Hp1
    isplitl [HO]; · iexact HO
    isplitl [HtS1]; · iexact HtS1
    iexact HtR1
  iintro ⟨HcS1, HO⟩
  iapply (send_step (gathered T) K hC c 2 _ _ send_sem2 recv_sem2 _ 0 (zero_add _).symm _ (dev6_eq c _)) $$ [Hq2 Hp2 HO HtS2 HtR2]
  · isplitr; · iexact HR
    isplitl [Hq2]; · iexact Hq2
    isplitl [Hp2]; · iexact Hp2
    isplitl [HO]; · iexact HO
    isplitl [HtS2]; · iexact HtS2
    iexact HtR2
  iintro ⟨HcS2, HO⟩
  iapply (slot_load 0 0 c kept (gathered T c)) $$ Hq3; iintro Hq3
  iapply (slot_load 0 1 c kept (gathered T c)) $$ Hq3; iintro Hq3
  iapply (arrive_step (gathered T) K c 0 _ recv_sem0 (src := slotM 0) (dst := slotM (slotUp 0)) (hsrc := (View.wordExact_bits rfl).reshape _ _) (hdst := (View.wordExact_bits rfl).reshape _ _) rfl) $$ [HcR0 HO HaR0]
  · isplitr; · iexact HR
    isplitl [HcR0]; · iexact HcR0
    isplitl [HO]; · iexact HO
    iexact HaR0
  iintro ⟨HO, HzR0, Hs1⟩
  ihave Hs1 := (Entails.of_eq (show slotPts c (slotUp 0) fullShare (gathered T c) = (slotPts c 1 fullShare (gathered T c) : sProp 𝕄) from rfl)) $$ Hs1
  iapply (slot_load 1 0 c fullShare (gathered T c)) $$ Hs1; iintro Hs1
  iapply (slot_load 1 1 c fullShare (gathered T c)) $$ Hs1; iintro Hs1
  iapply (arrive_step (gathered T) K c 1 _ recv_sem1 (src := slotM 0) (dst := slotM (slotUp 1)) (hsrc := (View.wordExact_bits rfl).reshape _ _) (hdst := (View.wordExact_bits rfl).reshape _ _) rfl) $$ [HcR1 HO HaR1]
  · isplitr; · iexact HR
    isplitl [HcR1]; · iexact HcR1
    isplitl [HO]; · iexact HO
    iexact HaR1
  iintro ⟨HO, HzR1, Hs2⟩
  ihave Hs2 := (Entails.of_eq (show slotPts c (slotUp 1) fullShare (gathered T c) = (slotPts c 2 fullShare (gathered T c) : sProp 𝕄) from rfl)) $$ Hs2
  iapply (slot_load 2 0 c fullShare (gathered T c)) $$ Hs2; iintro Hs2
  iapply (slot_load 2 1 c fullShare (gathered T c)) $$ Hs2; iintro Hs2
  iapply (arrive_step (gathered T) K c 2 _ recv_sem2 (src := slotM 0) (dst := slotM (slotUp 2)) (hsrc := (View.wordExact_bits rfl).reshape _ _) (hdst := (View.wordExact_bits rfl).reshape _ _) rfl) $$ [HcR2 HO HaR2]
  · isplitr; · iexact HR
    isplitl [HcR2]; · iexact HcR2
    isplitl [HO]; · iexact HO
    iexact HaR2
  iintro ⟨HO, HzR2, Hs3⟩
  ihave Hs3 := (Entails.of_eq (show slotPts c (slotUp 2) fullShare (gathered T c) = (slotPts c 3 fullShare (gathered T c) : sProp 𝕄) from rfl)) $$ Hs3
  iapply (slot_load 3 0 c fullShare (gathered T c)) $$ Hs3; iintro Hs3
  iapply (slot_load 3 1 c fullShare (gathered T c)) $$ Hs3; iintro Hs3
  iapply (wp_load 𝒱₀ (c : Thread nD τ) none Set.univ (m := outM) (Finset.subset_univ _)) $$ Hout; iintro Hout
  iapply (wp_store 𝒱₀ (c : Thread nD τ) none Set.univ (m := outM) (r := Rect.unit (s := S2x1024) ![0, 0] S1x1024.size inb_S2x1024_S1x1024_0_0) (Mk := Finset.univ) (Finset.subset_univ _)) $$ Hout; iintro Hout
  rw [out_write0]
  iapply (wp_load 𝒱₀ (c : Thread nD τ) none Set.univ (m := outM) (Finset.subset_univ _)) $$ Hout; iintro Hout
  iapply (wp_store 𝒱₀ (c : Thread nD τ) none Set.univ (m := outM) (r := Rect.unit (s := S2x1024) ![1, 0] S1x1024.size inb_S2x1024_S1x1024_1_0) (Mk := Finset.univ) (Finset.subset_univ _)) $$ Hout; iintro Hout
  rw [out_write1, setRow_setRow]
  iapply (sent_step (gathered T) K c 0 _ send_sem0 (src := slotM (slotUp 0)) (dst := slotM 0) (hsrc := (View.wordExact_bits rfl).reshape _ _) (hdst := (View.wordExact_bits rfl).reshape _ _) rfl) $$ [HcS0 HO HaS0]
  · isplitr; · iexact HR
    isplitl [HcS0]; · iexact HcS0
    isplitl [HO]; · iexact HO
    iexact HaS0
  iintro ⟨HO, HzS0, Hq0⟩
  iapply (sent_step (gathered T) K c 1 _ send_sem1 (src := slotM (slotUp 1)) (dst := slotM 0) (hsrc := (View.wordExact_bits rfl).reshape _ _) (hdst := (View.wordExact_bits rfl).reshape _ _) rfl) $$ [HcS1 HO HaS1]
  · isplitr; · iexact HR
    isplitl [HcS1]; · iexact HcS1
    isplitl [HO]; · iexact HO
    iexact HaS1
  iintro ⟨HO, HzS1, Hq1⟩
  iapply (sent_step (gathered T) K c 2 _ send_sem2 (src := slotM (slotUp 2)) (dst := slotM 0) (hsrc := (View.wordExact_bits rfl).reshape _ _) (hdst := (View.wordExact_bits rfl).reshape _ _) rfl) $$ [HcS2 HO HaS2]
  · isplitr; · iexact HR
    isplitl [HcS2]; · iexact HcS2
    isplitl [HO]; · iexact HO
    iexact HaS2
  iintro ⟨HO, HzS2, Hq2⟩
  unfold runs
  rw [wp_ret]; imodintro
  iapply Hk
  unfold phaseEnd copied
  isplitl [Hq0 Hq1 Hq2 Hq3 Hs1 Hs2 Hs3 Hz HzS0 HzR0 HzS1 HzR1 HzS2 HzR2]
  · isplitl [Hq0 Hq1 Hq2 Hq3 Hs1 Hs2 Hs3]
    · iapply (Entails.of_eq (comPts_slots c (gathered T c)).symm)
      isplitl [Hq0 Hq1 Hq2 Hq3]
      · iapply (slot0_quarters c 0 (gathered T c)).mpr
        isplitl [Hq0 Hq1]
        · isplitl [Hq0]; · iexact Hq0
          iexact Hq1
        isplitl [Hq2]; · iexact Hq2
        iexact Hq3
      isplitl [Hs1]; · iexact Hs1
      isplitl [Hs2]; · iexact Hs2
      iexact Hs3
    isplitl [Hz]; · iexact Hz
    isplitl [HzS0 HzR0]
    · isplitl [HzS0]; · iexact HzS0
      iexact HzR0
    isplitl [HzS1 HzR1]
    · isplitl [HzS1]; · iexact HzS1
      iexact HzR1
    isplitl [HzS2]; · iexact HzS2
    iexact HzR2
  isplitl [HO]; · iexact HO
  isplitl [Hx]; · iexact Hx
  isplitl [Hacc]; · iexact Hacc
  iexact Hout

end Cert.ArgMax

end
-- ==== Proof.Data.lean ====
/-
The contents and holdings of the kernel's grid run, point by point, and that the kernel's body takes each point's to
the next.
-/
module

public import proofs.«01_k».proof.Proof.BodyLater
public import proofs.«01_k».proof.Proof.Gen.KernelIdeal.Points

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What device `c` holds besides the staging buffers when `n` blocks are done. -/
def holds (c : Dev nD) (n : ℕ) : sProp 𝕄 :=
  if n = 0 then iprop(phaseStart (comF m) c ∗ (∃ f, accPts c f) ∗ ∃ f, comPts c f)
  else if n = 8 then iprop(phaseEnd (comF m) c ∗ accPts c (accV m c 7))
  else iprop(phaseMid (comF m) c ∗ accPts c (accV m c (n - 1)))

/-- What device `c` owes when `n` blocks are done. -/
def debt (c : Dev nD) (n : ℕ) : CellTallies nD τ sig Unit := if n = 0 then O₀ c else if n = 8 then 0 else O₁ c

theorem debt_cases (c : Dev nD) (n : ℕ) : debt c n = O₀ c ∨ debt c n = O₁ c ∨ debt c n = 0 := by
  unfold debt
  by_cases h : n = 0
  · rw [if_pos h]; exact .inl rfl
  by_cases h' : n = 8
  · rw [if_neg h, if_pos h']; exact .inr (.inr rfl)
  · rw [if_neg h, if_neg h']; exact .inr (.inl rfl)

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => outF m c
  Φ t := holds m c t.val
  q _ := fullShare
  owed t := debt c t.val

theorem before_block (c : Dev nD) (t : Fin cfg0.N) (d) : (dats m 0 c).before 0 t d = iblk m c 0 t :=
  ((dats m 0 c).before_in_eq_fetched 0 rfl (fun _ => rfl) (fun _ _ _ => rfl) (fun t => rfl) t d).trans rfl

theorem owesAt_owing (c : Dev nD) (t : Fin (cfg0.N + 1)) :
    ((dats m 0 c).owesAt () t : sProp 𝕄) ⊣⊢ owing c (debt c t.val) := by
  unfold Dat.owesAt Pipeline.owesWithin owing
  constructor
  · iintro ⟨%W, -, HO⟩
    iexists W; iexact HO
  · iintro ⟨%W, HO⟩
    iexists W
    isplitr; · ipureintro; exact fun _ _ => Or.inl trivial
    iexact HO

theorem leaves_flush (c : Dev nD) (t : Fin cfg0.N) (hf : (cfg0.win 1).flush t = true) :
    ((dats m 0 c).leavesExact 1 t : sProp 𝕄) = owns c ((cfg0.win 1).stage (cfg0.slots t 1)) fullShare (outF m c) := by
  unfold Dat.leavesExact
  rw [hf]
  cases cfg0.idle 1 (cfg0.grid.coords t) <;> rfl

theorem flush_last (t : Fin cfg0.N) (h : t.val = 7) : (cfg0.win 1).flush t = true := (flush0_1 t).mpr (by rw [h])
theorem flush_early (t : Fin cfg0.N) (h : t.val ≠ 7) : (cfg0.win 1).flush t = false := by
  have h8 : t.val < 8 := lt_of_lt_of_eq t.isLt N_eight
  cases hf : (cfg0.win 1).flush t with
  | false => rfl
  | true => exact absurd ((flush0_1 t).mp hf) (by omega)
theorem idle_early (t : Fin cfg0.N) (h : t.val ≠ 7) : cfg0.idle 1 (cfg0.grid.coords t) = true := by
  have hc : ¬ k0_cond4 (grid0.coords t) = 1#1 := cond4_neg _ (by rw [coords_val]; exact h)
  show (!(k0_cond4 (grid0.coords t) == 1#1)) = true
  rw [Bool.not_eq_true', beq_eq_false_iff_ne]
  exact hc

theorem one_buffer (t : Fin cfg0.N) : cfg0.slots t 1 = (0 : Fin 1) := by
  have : ∀ t : Fin cfg0.N, cfg0.slots t 1 = (0 : Fin 1) := fun t => Subsingleton.elim (α := Fin 1) _ _
  exact this t

omit [FloatOps F] in
theorem block_open (c : Dev nD) (M : Memref sig .tc .vmem S256x1024 .f32) (X : S256x1024.Idx → Elt F .f32) :
    (owns (Ix := Unit) (Name := ℕ) (U := UU) (Lvl := ℕ) (c : Thread nD τ) M fullShare X : sProp 𝕄)
      ⊢ iprop(∃ g : M.view.ref.ty.Contents (Elt F), ⌜M.view.read (Elt F) g = X⌝ ∗ blockPts c M g) := BI.Entails.refl _
omit [FloatOps F] in
theorem block_close (c : Dev nD) (M : Memref sig .tc .vmem S256x1024 .f32) (X : S256x1024.Idx → Elt F .f32)
    (g : M.view.ref.ty.Contents (Elt F)) (hg : M.view.read (Elt F) g = X) :
    blockPts c M g ⊢ (owns (Ix := Unit) (Name := ℕ) (U := UU) (Lvl := ℕ) (c : Thread nD τ) M fullShare X : sProp 𝕄) := by
  unfold owns
  iintro H
  iexists g
  isplitr; · ipureintro; exact hg
  iexact H

omit [FloatOps F] in
/-- The result's staging buffer, taken whole. -/
theorem out_owns (c : Dev nD) (X : S2x1024.Idx → Elt F .f32) :
    (owns (Ix := Unit) (Name := ℕ) (U := UU) (Lvl := ℕ) (c : Thread nD τ) outM fullShare X : sProp 𝕄) ⊣⊢ outPts c X := by
  unfold owns outPts
  simp only [Memref.view_whole, View.read_whole, View.set_whole]
  constructor
  · iintro ⟨%f, %hf, H⟩
    subst hf
    iexact H
  · iintro H
    iexists X
    isplitr; · ipureintro; rfl
    iexact H

/-- `body_last` over the result's staging buffer however it is named. -/
theorem body_last_owns (T : Dev nD → AccBuf F) (c : Dev nD) (i : grid0.Coords) (hi : (i 0).val = 7)
    (M : Memref sig .tc .vmem S256x1024 .f32) (hM : M.IsWhole) (M' : Memref sig .tc .vmem S2x1024 .f32) (hM' : M'.IsWhole) (h' : M' = outM)
    (g : M.view.ref.ty.Contents (Elt F)) (f : AccBuf F) (hT : nextAcc i c (M.view.read (Elt F) g) f = T c)
    (d : S2x1024.Idx → Elt F .f32) (Q : PUnit → sProp 𝕄) :
    iprop(phaseMid (gathered T) c ∗ owing c (O₁ c) ∗ blockPts c M g ∗ accPts c f ∗ owns c M' fullShare d)
      ⊢ iprop(((phaseEnd (gathered T) c ∗ owing (F := F) c 0 ∗ blockPts c M g ∗ accPts c (T c) ∗ owns c M' fullShare (combine (gathered T c))) -∗ Q ⟨⟩)
          -∗ runs (F := F) c (kernelAt i M hM M' hM') Q) := by
  subst h'
  iintro ⟨H1, H2, H3, H4, H5⟩ Hk
  ihave H5 := ((out_owns c d).mp) $$ H5
  iapply (body_last T c i hi M hM hM' g f hT d Q) $$ [H1 H2 H3 H4 H5]
  · isplitl [H1]; · iexact H1
    isplitl [H2]; · iexact H2
    isplitl [H3]; · iexact H3
    isplitl [H4]; · iexact H4
    iexact H5
  iintro ⟨H1, H2, H3, H4, H5⟩
  iapply Hk
  isplitl [H1]; · iexact H1
  isplitl [H2]; · iexact H2
  isplitl [H3]; · iexact H3
  isplitl [H4]; · iexact H4
  iapply ((out_owns c _).mpr); iexact H5

/-- The body takes what a device holds at each point to what it holds at the next. -/
theorem body_obligation (c : Dev nD) : BodyObligation (dats m 0 c) (defs₀ (F := F)) 𝒱₀ () Set.univ := fun t => by
  have h8 : t.val < 8 := lt_of_lt_of_eq t.isLt N_eight
  show iprop(holds m c t.val ∗ (dats m 0 c).owesAt () t.castSucc
      ∗ bigSep Finset.univ fun w : Fin cfg0.W => iprop(∃ d, owns c ((cfg0.win w).stage (cfg0.slots t w)) fullShare ((dats m 0 c).before w t d)))
    ⊢ wp frame (wpE (defs₀ (F := F)) 𝒱₀ (c : Thread nD τ) none) Set.univ (bodyAt0 t) fun _ =>
      iprop(holds m c (t.val + 1) ∗ (dats m 0 c).owesAt () t.succ ∗ bigSep Finset.univ fun w : Fin cfg0.W => (dats m 0 c).leavesExact w t)
  rw [bigSep_W0, bigSep_W0]
  rw [show ((dats m 0 c).leavesExact 0 t : sProp 𝕄) = owns c ((cfg0.win 0).stage (cfg0.slots t 0)) fullShare (iblk m c 0 t) from rfl]
  simp only [before_block]
  iintro ⟨HΦ, HO, ⟨%d0, Hx⟩, Hout⟩
  ihave HO := (show ((dats m 0 c).owesAt () t.castSucc : sProp 𝕄) ⊢ owing c (debt c t.val) from (owesAt_owing m c t.castSucc).mp) $$ HO
  ihave Hx := (block_open c _ _) $$ Hx
  icases Hx with ⟨%g, %hg, Hx⟩
  have hblk : ((cfg0.win 0).stage (cfg0.slots t 0)).view.read (Elt F) g = blk m c t.val := by
    rw [hg]; unfold blk; rw [pt_val]
  by_cases h0 : t.val = 0
  · have e := body_first (comF m) c (grid0.coords t) ((coords_val t).trans h0) ((cfg0.win 0).stage (cfg0.slots t 0))
      (hstage0_0 ((cfg0.slots t 0).cast nbuf0_0)) ((cfg0.win 1).stage (cfg0.slots t 1)) (hstage0_1 ((cfg0.slots t 1).cast nbuf0_1)) g
    rw [hblk] at e
    ihave H := (Entails.of_eq (show holds m c t.val = iprop(phaseStart (comF m) c ∗ (∃ f, accPts c f) ∗ ∃ f, comPts c f) from if_pos h0)) $$ HΦ
    icases H with ⟨Hst, ⟨%f0, Hacc⟩, ⟨%f1, Hcom⟩⟩
    iapply (e f0 f1 _) $$ [Hst HO Hx Hacc Hcom]
    · isplitl [Hst]; · iexact Hst
      isplitl [HO]
      · iapply (Entails.of_eq (congrArg (owing c) (show debt c t.val = O₀ c from if_pos h0))); iexact HO
      isplitl [Hx]; · iexact Hx
      isplitl [Hacc]; · iexact Hacc
      iexact Hcom
    iintro ⟨Hst, HO, Hx, Hacc⟩
    isplitl [Hst Hacc]
    · iapply (Entails.of_eq (show holds m c (t.val + 1) = iprop(phaseMid (comF m) c ∗ accPts c (accV m c (t.val + 1 - 1))) from
        (if_neg (by omega)).trans (if_neg (by omega))).symm)
      isplitl [Hst]; · iexact Hst
      have ht : t = pt 0 := (pt_val t).symm.trans (congrArg pt h0)
      rw [h0, show accV m c (0 + 1 - 1) = twoRows (k0_pay4 (blk m c 0)) (k0_pay5 (grid0.coords t) c (blk m c 0)) from by rw [ht]; rfl]
      iexact Hacc
    isplitl [HO]
    · iapply ((owesAt_owing m c t.succ).mpr)
      iapply (Entails.of_eq (congrArg (owing c) (show debt c (t.val + 1) = O₁ c from (if_neg (by omega)).trans (if_neg (by omega)))).symm)
      iexact HO
    isplitl [Hx]
    · iapply (block_close c _ _ g hg); iexact Hx
    iapply (Entails.of_eq ((dats m 0 c).leavesExact_idle 1 t (idle_early t (by omega)) (flush_early t (by omega))).symm)
    iexact Hout
  have hO : debt c t.val = O₁ c := (if_neg h0).trans (if_neg (by omega))
  ihave HO := (Entails.of_eq (congrArg (owing c) hO)) $$ HO
  ihave H := (Entails.of_eq (show holds m c t.val = iprop(phaseMid (comF m) c ∗ accPts c (accV m c (t.val - 1))) from
    (if_neg h0).trans (if_neg (by omega)))) $$ HΦ
  icases H with ⟨Hst, Hacc⟩
  have hnext : nextAcc (grid0.coords t) c (blk m c t.val) (accV m c (t.val - 1)) = accV m c t.val := by
    obtain ⟨n, hn⟩ : ∃ n, t.val = n + 1 := ⟨t.val - 1, by omega⟩
    have ht : t = pt (n + 1) := (pt_val t).symm.trans (congrArg pt hn)
    rw [hn, ht]
    rfl
  by_cases h7 : t.val = 7
  · icases Hout with ⟨%d, Hout⟩
    iapply (body_last_owns (fun d => accV m d 7) c (grid0.coords t) ((coords_val t).trans h7)
      ((cfg0.win 0).stage (cfg0.slots t 0)) (hstage0_0 ((cfg0.slots t 0).cast nbuf0_0)) ((cfg0.win 1).stage (cfg0.slots t 1))
      (hstage0_1 ((cfg0.slots t 1).cast nbuf0_1)) (by rw [one_buffer]) g (accV m c (t.val - 1))
      (by rw [hblk, hnext, h7]) _ _) $$ [Hst HO Hx Hacc Hout]
    · isplitl [Hst]; · iexact Hst
      isplitl [HO]; · iexact HO
      isplitl [Hx]; · iexact Hx
      isplitl [Hacc]; · iexact Hacc
      iexact Hout
    iintro ⟨Hst, HO, Hx, Hacc, Hout⟩
    isplitl [Hst Hacc]
    · iapply (Entails.of_eq (show holds m c (t.val + 1) = iprop(phaseEnd (comF m) c ∗ accPts c (accV m c 7)) from
        (if_neg (by omega)).trans (if_pos (by omega))).symm)
      isplitl [Hst]; · iexact Hst
      iexact Hacc
    isplitl [HO]
    · iapply ((owesAt_owing m c t.succ).mpr)
      iapply (Entails.of_eq (congrArg (owing c) (show debt c (t.val + 1) = 0 from (if_neg (by omega)).trans (if_pos (by omega)))).symm)
      iexact HO
    isplitl [Hx]
    · iapply (block_close c _ _ g hg); iexact Hx
    iapply (Entails.of_eq (leaves_flush m c t (flush_last t h7)).symm)
    iexact Hout
  · have e := body_mid c (grid0.coords t) (by rw [coords_val]; exact h0) (by rw [coords_val]; exact h7) ((cfg0.win 0).stage (cfg0.slots t 0))
      (hstage0_0 ((cfg0.slots t 0).cast nbuf0_0)) ((cfg0.win 1).stage (cfg0.slots t 1)) (hstage0_1 ((cfg0.slots t 1).cast nbuf0_1)) g (accV m c (t.val - 1))
    rw [hblk, hnext] at e
    iapply (e _) $$ [Hx Hacc]
    · isplitl [Hx]; · iexact Hx
      iexact Hacc
    iintro ⟨Hx, Hacc⟩
    isplitl [Hst Hacc]
    · iapply (Entails.of_eq (show holds m c (t.val + 1) = iprop(phaseMid (comF m) c ∗ accPts c (accV m c (t.val + 1 - 1))) from
        (if_neg (by omega)).trans (if_neg (by omega))).symm)
      isplitl [Hst]; · iexact Hst
      rw [Nat.add_sub_cancel]
      iexact Hacc
    isplitl [HO]
    · iapply ((owesAt_owing m c t.succ).mpr)
      iapply (Entails.of_eq (congrArg (owing c) (show debt c (t.val + 1) = O₁ c from (if_neg (by omega)).trans (if_neg (by omega)))).symm)
      iexact HO
    isplitl [Hx]
    · iapply (block_close c _ _ g hg); iexact Hx
    iapply (Entails.of_eq ((dats m 0 c).leavesExact_idle 1 t (idle_early t h7) (flush_early t h7)).symm)
    iexact Hout

end Cert.ArgMax

end
-- ==== Proof.Launch.lean ====
/-
The launch: from the semaphores at zero, the invariants of all cells and the tokens of all duties, dealt out so that each
device holds what its own signals, copies and waits need.
-/
module

public import proofs.«01_k».proof.Proof.Data

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Cells and tokens -/

/-- The six semaphores of the copies. -/
abbrev osem : Fin 6 → SemLoc sig := fun k => csem k.succ

theorem ownSemFacts : Pipeline.OwnSemFacts cfg0.spec osem := by decide

def allCells : Finset (GSem nD τ sig) := Finset.univ.map ⟨kcell, kcell_injective⟩

/-- Which cell and which duty the token `e` of a device names: kind 0 the barrier's duties, kinds 1 and 2 the duty of a send
    and of a receive. -/
def tokCell (e : Fin 3 × Fin 3) : Fin 7 := if e.1 = 0 then 0 else if e.1 = 1 then sendK e.2 else recvK e.2
def tokDuty (e : Fin 3 × Fin 3) : Fin 3 := if e.1 = 0 then e.2 else 0

theorem tok_inj (e e' : Fin 3 × Fin 3) (h : tokCell e = tokCell e') (h' : tokDuty e = tokDuty e') : e = e' := by
  revert e e'; decide

abbrev tokOf (x : Dev nD × (Fin 3 × Fin 3)) : GSem nD τ sig × ℕ × Fin 3 := (kcell (x.1, tokCell x.2), 0, tokDuty x.2)

theorem tokOf_injective : Function.Injective tokOf := by
  rintro ⟨c, e⟩ ⟨c', e'⟩ h
  have h1 := kcell_injective (congrArg Prod.fst h)
  have hc : c = c' := congrArg Prod.fst h1
  have he : e = e' := tok_inj e e' (congrArg Prod.snd h1) (congrArg (fun y : GSem nD τ sig × ℕ × Fin 3 => y.2.2) h)
  subst hc he; rfl

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

omit [FloatOps F] in
theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl
omit [FloatOps F] in
/-- The seven cells of a device one by one. -/
theorem bigSep_seven (Φ : Fin 7 → sProp 𝕄) : bigSep Finset.univ Φ
    = iprop(Φ 0 ∗ Φ (sendK 0) ∗ Φ (sendK 1) ∗ Φ (sendK 2) ∗ Φ (recvK 0) ∗ Φ (recvK 1) ∗ Φ (recvK 2)) := by
  rw [bigSep_univ_eq_bigSepL [0, sendK 0, sendK 1, sendK 2, recvK 0, recvK 1, recvK 2] (by decide) (by decide)]
  simp only [bigSepL_cons_cons, bigSepL_singleton]
  rfl

/-- The tokens of the duties at device `c`'s own cells: of its barrier, of its sends, of its receives. -/
def toks (c : Dev nD) : sProp 𝕄 :=
  iprop((bigSep Finset.univ fun j : Fin 3 => dutyTok ER (barCell c) 0 j)
    ∗ (bigSep Finset.univ fun j : Fin 3 => dutyTok ER (sendCell c j) 0 (0 : Fin 3))
    ∗ bigSep Finset.univ fun j : Fin 3 => dutyTok ER (recvCell c j) 0 (0 : Fin 3))
/-- The tokens of the duties device `c` pays. -/
def payToks (c : Dev nD) : sProp 𝕄 :=
  iprop((bigSep Finset.univ fun j : Fin 3 => dutyTok ER (barCell (peer c j)) 0 j.rev)
    ∗ (bigSep Finset.univ fun j : Fin 3 => dutyTok ER (sendCell c j) 0 (0 : Fin 3))
    ∗ bigSep Finset.univ fun j : Fin 3 => dutyTok ER (recvCell (peer c j) j) 0 (0 : Fin 3))
/-- The places of device `c` on its own cells. -/
def places (c : Dev nD) : sProp 𝕄 := bigSep Finset.univ fun k : Fin 7 => atPos ER (kcell (c, k)) 0 ∅ 0

variable (C : Dev nD → ComBuf F)

/-- What the launch element deals device `c`. -/
def G (c : Dev nD) : sProp 𝕄 :=
  iprop((bigSep Finset.univ fun k : Fin 7 => roundState ER (exch C) (kcell (c, k)) 0)
    ∗ (places c ∗ bigSep Finset.univ fun k : Fin 7 => reached ER (kcell (c, k)) 0) ∗ toks c)

/-- What the step over all devices makes of it. -/
def G' (c : Dev nD) : sProp 𝕄 := iprop(∃ K, records C K ∗ places c ∗ payToks c)

omit [FloatOps F] in
theorem own_toks : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_prod, bigSep_three]
  rfl

omit [FloatOps F] in
theorem fund_exchange : BI.own (ER (initOf allCells allToks)) ⊢ (|==> bigSep Finset.univ (G C) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  iintro HX
  imod (Rounds.fund ER (exch C) allCells allToks) $$ HX with ⟨Hst, Hr, Hat, Htok⟩
  imodintro
  ihave Hst := (Entails.of_eq (hX fun g => roundState ER (exch C) g 0)) $$ Hst
  ihave Hat := (Entails.of_eq (hX fun g => atPos ER g 0 ∅ 0)) $$ Hat
  ihave Hr := (Entails.of_eq (hX fun g => reached ER g 0)) $$ Hr
  ihave Htok := (Entails.of_eq own_toks) $$ Htok
  unfold G places; simp only [bigSep_sep']
  isplitl [Hst]; · iexact Hst
  isplitl [Hat Hr]
  · isplitl [Hat]; · iexact Hat
    iexact Hr
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl

omit [FloatOps F] in
/-- The counters of the seven semaphores of a device. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_seven]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

omit [FloatOps F] in
theorem core_alloc (c : Dev nD) :
    iprop(Pipeline.ownSems0 (Ix := Unit) (Name := ℕ) (U := UU) (Lvl := ℕ) (Val := Elt F) (τ := τ) osem c ∗ unscopedSems0 c ∗ G C c)
      ⊢ |={Set.univ}=> iprop((bigSep Finset.univ fun k => iprop(∃ κ : ℕ, cellInv ER (exch C) κ (kcell (c, k))))
          ∗ (places c ∗ bigSep Finset.univ fun k : Fin 7 => reached ER (kcell (c, k)) 0) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Fin 7 => semVal (kcell (c, k)) 0) ∗ bigSep Finset.univ fun k : Fin 7 => roundState ER (exch C) (kcell (c, k)) 0)
      ⊢ (|={Set.univ}=> bigSep Finset.univ fun k => iprop(∃ κ : ℕ, cellInv ER (exch C) κ (kcell (c, k))) : sProp 𝕄) from by
        rw [← bigSep_sep']
        exact (bigSep_mono fun k _ => (Rounds.body_intro ER (exch C) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The signal `j` of `c` pays duty `j.rev` at `peer c j`: every duty of every barrier once. -/
def swapTurn : Dev nD × Fin 3 ≃ Dev nD × Fin 3 :=
  ⟨fun x => (peer x.1 x.2, x.2.rev), fun x => (peer x.1 x.2, x.2.rev),
    fun x => by revert x; decide, fun x => by revert x; decide⟩
/-- The copy `j` of `c` arrives at `peer c j`: every arrival once. -/
def copyTurn : Dev nD × Fin 3 ≃ Dev nD × Fin 3 :=
  ⟨fun x => (peer x.1 x.2, x.2), fun x => (peer x.1 x.2.rev, x.2),
    fun x => by revert x; decide, fun x => by revert x; decide⟩

omit [FloatOps F] in
theorem deal_bar : (bigSep Finset.univ fun c : Dev nD => bigSep Finset.univ fun j : Fin 3 => (dutyTok ER (barCell c) 0 j : sProp 𝕄))
    = bigSep Finset.univ fun c : Dev nD => bigSep Finset.univ fun j : Fin 3 => dutyTok ER (barCell (peer c j)) 0 j.rev := by
  rw [← bigSep_univ_prod (fun x : Dev nD × Fin 3 => (dutyTok ER (barCell x.1) 0 x.2 : sProp 𝕄)), bigSep_univ_equiv swapTurn, bigSep_univ_prod]
  rfl
omit [FloatOps F] in
theorem deal_recv : (bigSep Finset.univ fun c : Dev nD => bigSep Finset.univ fun j : Fin 3 => (dutyTok ER (recvCell c j) 0 (0 : Fin 3) : sProp 𝕄))
    = bigSep Finset.univ fun c : Dev nD => bigSep Finset.univ fun j : Fin 3 => dutyTok ER (recvCell (peer c j) j) 0 (0 : Fin 3) := by
  rw [← bigSep_univ_prod (fun x : Dev nD × Fin 3 => (dutyTok ER (recvCell x.1 x.2) 0 (0 : Fin 3) : sProp 𝕄)), bigSep_univ_equiv copyTurn, bigSep_univ_prod]
  rfl

omit [FloatOps F] in
/-- The tokens dealt to their payers. -/
theorem deal : (bigSep Finset.univ fun c : Dev nD => (toks c : sProp 𝕄)) = bigSep Finset.univ fun c : Dev nD => payToks c := by
  unfold toks payToks
  simp only [bigSep_sep']
  rw [deal_bar, deal_recv]

omit [FloatOps F] in
/-- A persistent fact is at hand for every device. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (exch C) κ (kcell (c, k))))
          ∗ (places c ∗ bigSep Finset.univ fun k : Fin 7 => reached ER (kcell (c, k)) 0) ∗ toks c) : sProp 𝕄)
      ⊢ bigSep Finset.univ (G' C) := by
  rw [bigSep_sep', bigSep_sep', bigSep_sep', deal, ← bigSep_univ_prod (fun ck : Dev nD × Fin 7 => iprop(∃ κ : ℕ, cellInv ER (exch C) κ (kcell ck))),
    ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (exch C) κ (kcell ck) : sProp 𝕄))) $$ HI
  icases HK with ⟨%K, #HI⟩
  iapply (share_out (R := records C K) (Φ := fun c => iprop(places c ∗ payToks c)) fun c _ => show _ ⊢ G' C c from by
    unfold G'
    iintro H
    iexists K
    iexact H)
  isplitr
  · unfold records; isplitl; · iexact HI
    iexact HR
  rw [bigSep_sep']
  isplitl [Hat]; · iexact Hat
  iexact Htok

omit [FloatOps F] in
/-- The step over all devices at once. -/
theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (G' C) :=
  ((bigSep_mono fun c _ => core_alloc C c).trans (bigSep_fupd _ _)).trans (BI.fupd_mono (regroup C))

/-! ## The launch's credit -/

theorem tally_cell (g g' : GSem nD τ sig) (n : ℕ) [Decidable (g' = g)] :
    (tallyAt g () n : CellTallies nD τ sig Unit) g' () = if g' = g then n else 0 := by
  rw [tallyAt_apply]
  by_cases h : g' = g
  · rw [if_pos h, if_pos ⟨h, rfl⟩]
  · rw [if_neg h, if_neg fun h' => h h'.1]

/-- What device `d` owes cell `k` of device `c`, counted in payments of the cell's amount. -/
def dues (d c : Dev nD) (k : Fin 7) : ℕ :=
  ((if (c, k) = (peer d 2, recvK 2) then 1 else 0) + (if (c, k) = (peer d 1, recvK 1) then 1 else 0) + (if (c, k) = (peer d 0, recvK 0) then 1 else 0))
    + (if (c, k) = (peer d 2, 0) then 1 else 0) + (if (c, k) = (peer d 1, 0) then 1 else 0) + (if (c, k) = (peer d 0, 0) then 1 else 0)

theorem tally_kcell (x y : Dev nD × Fin 7) (n : ℕ) :
    (tallyAt (kcell x) () n : CellTallies nD τ sig Unit) (kcell y) () = (if y = x then 1 else 0) * n := by
  rw [tallyAt_apply]
  by_cases h : y = x
  · rw [if_pos ⟨congrArg kcell h, rfl⟩, if_pos h, Nat.one_mul]
  · rw [if_neg fun h' => h (kcell_injective h'.1), if_neg h, Nat.zero_mul]

theorem owed_bar (d c : Dev nD) : O₀ d (barCell c) () = dues d c 0 := by
  have hn : ∀ (e : Dev nD) (j : Fin 3), ¬ (c, (0 : Fin 7)) = (e, recvK j) := fun e j h => recvK_ne j (congrArg Prod.snd h).symm
  unfold O₀ O₁ dues
  simp only [Pi.add_apply, Finsupp.add_apply, tally_kcell, Nat.mul_one, if_neg (hn _ _), Nat.zero_mul]
theorem owed_recv (d c : Dev nD) (j : Fin 3) : O₀ d (recvCell c j) () = dues d c (recvK j) * N := by
  have hn : ∀ e : Dev nD, ¬ (c, recvK j) = (e, (0 : Fin 7)) := fun e h => recvK_ne j (congrArg Prod.snd h)
  unfold O₀ O₁ dues
  simp only [Pi.add_apply, Finsupp.add_apply, tally_kcell, if_neg (hn _), Nat.zero_mul, Nat.add_zero, Nat.add_mul]

theorem dues_bar (c : Dev nD) : (Finset.univ.sum fun d : Dev nD => dues d c 0) = 3 := by revert c; decide
theorem dues_recv (c : Dev nD) (j : Fin 3) : (Finset.univ.sum fun d : Dev nD => dues d c (recvK j)) = 1 := by revert c j; decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, dues_bar]
theorem launch_recv (c : Dev nD) (j : Fin 3) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, ← Finset.sum_mul, dues_recv, Nat.one_mul]

omit [FloatOps F] in
theorem creds (c : Dev nD) :
    (Pipeline.launchCred O₀ c : sProp 𝕄) ⊢ iprop(cred (tallyAt (barCell c) () 3) ∗ cred (tallyAt (recvCell c 0) () N)
      ∗ cred (tallyAt (recvCell c 1) () N) ∗ cred (tallyAt (recvCell c 2) () N)) := by
  have pick (Φ : SemLoc sig → sProp 𝕄) : bigSep Finset.univ Φ
      ⊢ iprop(Φ (csem 0) ∗ Φ (csem (sendK 0)) ∗ Φ (csem (sendK 1)) ∗ Φ (csem (sendK 2)) ∗ Φ (csem (recvK 0)) ∗ Φ (csem (recvK 1)) ∗ Φ (csem (recvK 2))) :=
    (bigSep_subset (Finset.subset_univ (Finset.univ.map ⟨csem, csem_inj⟩))).trans
      (Entails.of_eq ((bigSep_map _).trans (bigSep_seven fun k => Φ (csem k))))
  unfold Pipeline.launchCred
  iintro H
  ihave H := (pick _) $$ H
  icases H with ⟨H0, -, -, -, H1, H2, H3⟩
  isplitl [H0]; · iapply (Entails.of_eq (congrArg cred (launch_bar c))); iexact H0
  isplitl [H1]; · iapply (Entails.of_eq (congrArg cred (launch_recv c 0))); iexact H1
  isplitl [H2]; · iapply (Entails.of_eq (congrArg cred (launch_recv c 1))); iexact H2
  iapply (Entails.of_eq (congrArg cred (launch_recv c 2))); iexact H3

omit [FloatOps F] in
/-- What a device starts with. -/
theorem start_phase (c : Dev nD) : iprop(levAts L lv ∗ Pipeline.launchCred O₀ c ∗ G' C c) ⊢ phaseStart C c := by
  unfold phaseStart G' places payToks copyKits copyKit barKit
  rw [bigSep_seven, bigSep_three, bigSep_three, bigSep_three]
  iintro ⟨Hlev, Hcr, ⟨%K, HR, ⟨A, S0, S1, S2, R0, R1, R2⟩, ⟨B0, B1, B2⟩, ⟨T0, T1, T2⟩, U0, U1, U2⟩⟩
  ihave Hc := (creds (F := F) c) $$ Hcr
  icases Hc with ⟨CB, C0, C1, C2⟩
  isplitl [Hlev]; · iexact Hlev
  isplitl [HR S0 S1 S2 R0 R1 R2 T0 T1 T2 U0 U1 U2 C0 C1 C2]
  · iexists K
    isplitl [HR]; · iexact HR
    isplitl [S0 R0 T0 U0 C0]
    · isplitl [T0]; · iexact T0
      isplitl [U0]; · iexact U0
      isplitl [S0]; · iexact S0
      isplitl [R0]; · iexact R0
      iexact C0
    isplitl [S1 R1 T1 U1 C1]
    · isplitl [T1]; · iexact T1
      isplitl [U1]; · iexact U1
      isplitl [S1]; · iexact S1
      isplitl [R1]; · iexact R1
      iexact C1
    isplitl [T2]; · iexact T2
    isplitl [U2]; · iexact U2
    isplitl [S2]; · iexact S2
    isplitl [R2]; · iexact R2
    iexact C2
  isplitl [B0]; · iexact B0
  isplitl [B1]; · iexact B1
  isplitl [B2]; · iexact B2
  isplitl [A]; · iexact A
  iexact CB

end Cert.ArgMax

end
-- ==== Proof.Run.lean ====
/-
The run of the kernel on its four devices, for any float values.
-/
module

public import proofs.«01_k».proof.Proof.Launch
public import Idealize.ShloMosaic.Lib.Pipeline.CollectiveSegs

@[expose] public section

set_option maxRecDepth 16384

noncomputable section

namespace Cert.ArgMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

theorem holds_start (c : Dev nD) : holds m c 0 = iprop(phaseStart (comF m) c ∗ (∃ f, accPts c f) ∗ ∃ f, comPts c f) := if_pos rfl
theorem holds_end (c : Dev nD) : holds m c cfg0.N = iprop(phaseEnd (comF m) c ∗ accPts c (accV m c 7)) := by
  rw [N_eight]
  exact (if_neg (by decide)).trans (if_pos rfl)
theorem debt_start (c : Dev nD) : debt c 0 = O₀ c := if_pos rfl
theorem debt_end (c : Dev nD) : debt c cfg0.N = 0 := by
  rw [N_eight]
  exact (if_neg (by decide)).trans (if_pos rfl)

/-- The waits on the staging buffers' semaphores are at level 0. -/
theorem stage_level (w : Fin 2) (s : Fin (cfg0.win w).nbuf) (c : Dev nD) : lv ((c : Thread nD τ), .dma ((cfg0.win w).sem s)) () = 0 := by
  have h : ∀ (w : Fin 2) (s : Fin (cfg0.win w).nbuf), kOf (.dma ((cfg0.win w).sem s)) = none := by decide
  unfold lv; rw [h]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (comF m) c)
      ⊢ |={Set.univ}=> iprop(phaseStart (comF m) c ∗ emp) := by
  iintro ⟨-, Hlev, Hcr, -, HG⟩
  imodintro
  isplitl
  · iapply (start_phase (comF m) c)
    isplitl [Hlev]; · iexact Hlev
    isplitl [Hcr]; · iexact Hcr
    iexact HG
  · iempintro

theorem enter (c : Dev nD) :
    iprop(phaseStart (comF m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(phaseStart (comF m) c ∗ (∃ f, accPts c f) ∗ ∃ f, comPts c f) from holds_start m c, scopedRest0_eq]
  iintro ⟨Hs, -, Ha, Hc⟩
  isplitl [Hs]; · iexact Hs
  isplitl [Ha]; · iexact Ha
  iexact Hc

theorem leave (c : Dev nD) :
    (dats m 0 c).Φ (Fin.last cfg0.N) ⊢ iprop(unscopedSems0 c ∗ Pipeline.ownSems0 osem c ∗ Pipeline.scopedRest cfg0.spec c) := by
  have e : (dats m 0 c).Φ (Fin.last cfg0.N) = iprop(phaseEnd (comF m) c ∗ accPts c (accV m c 7)) :=
    holds_end m c
  rw [e, scopedRest0_eq, ownSems0_eq, unscopedSems0_eq]
  unfold phaseEnd copied accPts comPts
  iintro ⟨⟨Hc, HB, ⟨S0, R0⟩, ⟨S1, R1⟩, S2, R2⟩, Ha⟩
  isplitl [HB]; · iexact HB
  isplitl [S0 S1 S2 R0 R1 R2]
  · isplitl [S0]; · iexact S0
    isplitl [S1]; · iexact S1
    isplitl [S2]; · iexact S2
    isplitl [R0]; · iexact R0
    isplitl [R1]; · iexact R1
    iexact R2
  isplitl [Ha]
  · iexists (accV m c 7); iexact Ha
  iexists (comF m c); iexact Hc

theorem waits (c : Dev nD) : (levAts L lv : sProp 𝕄) ⊢ Pipeline.cellsWaits cfgs (dats m) () 0 c :=
  Pipeline.cellsWaits_intro cfgs (dats m) () 0 c fun w s t =>
    mayWait_low c _ (stage_level w s c) _ (debt_cases c t.val)

/-! ## The run -/

abbrev s₀ : MemSt nD τ sig (Elt F) := ⟨m, fun _ => 0, ρ⟩

/-- Window `w`'s array on device `c` after the run. -/
def finalA (c : Dev nD) (w : Fin cfg0.W) : Buf (Elt F) ((cfg0.win w).arr.view.loc (c : Thread nD τ)) := (dats m 0 c).arrAt w cfg0.N

def ends : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with all counters zero the four devices' run of the kernel ends, each device's arrays at the computed
    contents and every counter at zero. -/
theorem run_main : θ_run defs (onTc (τ := τ) (main (F := F))) (s₀ m ρ) (fun r => ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := debt_start) (howedN := debt_end)
    (L := L) (lv := lv) (hL := L_of_ne) (hwaits := waits m)
    (G := G (comF m)) (G' := G' (comF m)) (u₀ := u₀)
    (hu₀ := by
      unfold u₀
      iintro Hu
      ihave H := (ownU_pair _ _) $$ Hu
      icases H with ⟨HP, HX⟩
      imod (fund_exchange (comF m)) $$ HX with HG
      imodintro
      isplitl [HP] <;> iassumption)
    (hglob := glob (comF m))
    (hA := fun _ _ => rfl) (hpf := fun _ k => k.elim0)
    (X := phaseStart (comF m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The rows a device was given are after the run what they were. -/
theorem finalA_rows (c : Dev nD) : finalA m c (0 : Fin 2) = m (win0_0.arr.view.loc (c : Thread nD τ)) :=
  (dats (F := F) m 0 c).arrAt_in (0 : Fin 2) rfl _

end Cert.ArgMax

end
-- ==== Proof.Final.lean ====
/-
What each device's arrays hold after the kernel's run.
-/
module

public import proofs.«01_k».proof.Proof.Run
public import Idealize.ShloMosaic.Lib.Pipeline.ValueKit.Geometry

@[expose] public section

set_option maxRecDepth 16384

noncomputable section

namespace Cert.ArgMax

open Cert.KernelIdeal Cert.KernelIdeal.Gen

open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- The result's one write-back, after the last point, writes the whole of it. -/
theorem out_whole : (cfg0.win (1 : Fin 2)).WholeAt t0_7 := by
  decide +kernel

/-- The result array ends holding the computed table. -/
theorem finalA_out (c : Dev nD) : finalA m c (1 : Fin 2) = outF m c := by
  unfold finalA
  exact (dats m 0 c).arrAt_eq_of_after_last (1 : Fin 2) t0_7 out_whole (outF m c) (fun j => rfl)

/-- The kernel's run ends, each device's result the computed table, its rows unchanged and every counter at zero. -/
theorem run_value : θ_run defs (onTc (τ := τ) (main (F := F))) (s₀ m ρ) fun r =>
    (∀ c : Dev nD, r.2.mem ((c.tc : Thread nD τ).loc main_v1) = outF m c
      ∧ r.2.mem ((c.tc : Thread nD τ).loc main_arg0) = m ((c.tc : Thread nD τ).loc main_arg0))
    ∧ r.2.sem = fun _ => 0 :=
  (θ_run defs _ _).mono
    (fun r h => ⟨fun c => ⟨(h.1 c (1 : Fin 2)).trans (finalA_out m c), (h.1 c (0 : Fin 2)).trans (finalA_rows m c)⟩, h.2⟩)
    (run_main m ρ)

end Cert.ArgMax

end
-- ==== Proof.RefRun.lean ====
/-
The run of the reference: a line of operations, each value in a buffer of its own; and what its result then holds.
-/
module

public import proofs.«01_k».proof.Proof.Gen.ReferenceIdeal
public import Idealize.ShloMosaic.Lib.StableHlo.RunRead
public import Idealize.ShloMosaic.Lib.Quiescent

@[expose] public section

noncomputable section

namespace Cert.ArgMax.Ref

open Cert.ReferenceIdeal Cert.ReferenceIdeal.Gen
open Idealize.ShloMosaic Idealize.ShloMosaic.StableHlo Idealize.ShloMosaic.TcCoe
open Idealize.SL.Sem

variable {F : FTy → Type} [FloatOps F]

/-- Column by column the largest entry and the least row holding it, as a pair. -/
def best (x : FVec F S8192x1024 .f32) (j : S1024.Idx) : F .f32 × BitVec 32 :=
  Host.argReduce reducer_argmax_f32_i32 x (iotaInDim S8192x1024 32 0) (constant S_ .f32 0xFF800000#32) (constantI S_ 32 0#32)
    reducesTo_S8192x1024_S1024_d0 h_S_ j

/-- Column by column the largest entry. -/
def top (x : FVec F S8192x1024 .f32) : FVec F S1024 .f32 :=
  Host.reduce FloatOps.maximumf x (constant S_ .f32 0xFF800000#32) reducesTo_S8192x1024_S1024_d0 h_S_

/-- What the reference computes. -/
def value (x : FVec F S8192x1024 .f32) : FVec F S2x1024 .f32 :=
  concatenate S2x1024 0
    [⟨S1x1024, broadcastInDim S1x1024 ![1] bcast_S1024_S1x1024_1 (top x)⟩,
     ⟨S1x1024, broadcastInDim S1x1024 ![1] bcast_S1024_S1x1024_1 (sitofp .f32 (fun j => (best x j).2 : IVec S1024 32))⟩]
    concatenates_S1x1024_S1x1024_S2x1024_d0

/-- The operations in order. -/
def ops : List (HloOp τ sig (Elt F)) :=
  [ TRef.nullary main_call0.v0 (iotaInDim S8192x1024 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S8192x1024_S1024_d0 h_S_ j).1),
    TRef.quaternary (.of main_arg0) main_call0.v0 main_call0.cst main_call0.c main_call0.v1_1
      (fun x y u v j => (Host.argReduce reducer_argmax_f32_i32 x y u v reducesTo_S8192x1024_S1024_d0 h_S_ j).2),
    unary main_v0 main_v1 (sitofp .f32 : (⟨S1024, .i32⟩ : BufTy).Contents (Elt F) → (⟨S1024, .f32⟩ : BufTy).Contents (Elt F)),
    nullary main_cst (constant S_ .f32 0xFF800000#32),
    binary main_arg0 main_cst main_v2 ((fun x v => Host.reduce FloatOps.maximumf x v reducesTo_S8192x1024_S1024_d0 h_S_) :
      (⟨S8192x1024, .f32⟩ : BufTy).Contents (Elt F) → (⟨S_, .f32⟩ : BufTy).Contents (Elt F) → (⟨S1024, .f32⟩ : BufTy).Contents (Elt F)),
    unary main_v2 main_v3 (broadcastInDim S1x1024 ![1] bcast_S1024_S1x1024_1 :
      (⟨S1024, .f32⟩ : BufTy).Contents (Elt F) → (⟨S1x1024, .f32⟩ : BufTy).Contents (Elt F)),
    unary main_v1 main_v4 (broadcastInDim S1x1024 ![1] bcast_S1024_S1x1024_1 :
      (⟨S1024, .f32⟩ : BufTy).Contents (Elt F) → (⟨S1x1024, .f32⟩ : BufTy).Contents (Elt F)),
    binary main_v3 main_v4 main_v5 ((fun a b => concatenate S2x1024 0 [⟨S1x1024, a⟩, ⟨S1x1024, b⟩] concatenates_S1x1024_S1x1024_S2x1024_d0) :
      (⟨S1x1024, .f32⟩ : BufTy).Contents (Elt F) → (⟨S1x1024, .f32⟩ : BufTy).Contents (Elt F) → (⟨S2x1024, .f32⟩ : BufTy).Contents (Elt F)) ]

theorem main_ops (c : Dev nD) : main (F := F) c = seq ops := by
  simp only [main, fn_argmax.body, seq, bind_assoc, pure_bind]
  rfl

theorem result_value (V : Valuation τ sig (Elt F)) : after ops V (main_v5 : DevRef τ sig) = value (V (main_arg0 : DevRef τ sig)) := by
  unfold ops
  after_results
  rfl

theorem rows_kept (V : Valuation τ sig (Elt F)) : after ops V (main_arg0 : DevRef τ sig) = V (main_arg0 : DevRef τ sig) := by
  unfold ops
  simp only [after_cons, after_nil]
  rfl

theorem no_scoped_ref : (Finset.univ.filter fun b : Ref sig .tc => b.isScoped) = ∅ := by decide
theorem no_scoped_sem : (Finset.univ.filter fun sm : SemLoc sig => sm.isScoped .tc) = ∅ := by decide

theorem ops_within : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- The reference's run ends, its result `value` of its rows, its rows unchanged and every counter at zero. -/
theorem run_value (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = value (m ((c.tc : Thread nD τ).loc main_arg0))
        ∧ r.2.mem ((c.tc : Thread nD τ).loc main_arg0) = m ((c.tc : Thread nD τ).loc main_arg0))
      ∧ r.2.sem = fun _ => 0 :=
  (θ_run defs _ _).mono
    (fun r h => ⟨fun c => ⟨(h c main_v5).trans (result_value _), (h c main_arg0).trans (rows_kept _)⟩, sem_eq_zero_of_no_sems (by decide) r.2⟩)
    (run_seq no_scoped_ref no_scoped_sem defs main (fun _ => ops) main_ops (fun _ => ops_within) m ρ)

end Cert.ArgMax.Ref

end
-- ==== Proof.Best.lean ====
/-
The first largest entry of a column over a set of rows: what it is, that it is unique, and how those of two sets of
rows give that of their union.
-/
module

public import Idealize.ShloMosaic.Lib.ValueIdx
public import Idealize.ShloMosaic.PureOps.Ideal.Laws

@[expose] public section

noncomputable section

namespace Cert.ArgMax

open Idealize.ShloMosaic
open Idealize.ShloMosaic.ValueIdx

/-- Over the rows of `S`, the column `f` has its largest entry `v`, and `k` is the least row holding it. -/
def IsBest (f : ℕ → EReal) (S : Set ℕ) (v : EReal) (k : ℕ) : Prop :=
  k ∈ S ∧ f k = v ∧ ∀ r ∈ S, f r < v ∨ (f r = v ∧ k ≤ r)

theorem IsBest.unique {f : ℕ → EReal} {S : Set ℕ} {v w : EReal} {k l : ℕ} (h : IsBest f S v k) (h' : IsBest f S w l) : v = w ∧ k = l := by
  obtain ⟨hk, hv, ha⟩ := h
  obtain ⟨hl, hw, hb⟩ := h'
  rcases ha l hl with h1 | ⟨h1, h2⟩ <;> rcases hb k hk with h3 | ⟨h3, h4⟩
  · rw [hw] at h1; rw [hv] at h3; exact absurd h1 (not_lt.mpr h3.le)
  · rw [hw] at h1; rw [hv] at h3; exact absurd h1 (not_lt.mpr h3.le)
  · rw [hw] at h1; rw [hv] at h3; exact absurd h3 (not_lt.mpr h1.le)
  · exact ⟨hv.symm.trans h3, le_antisymm h2 h4⟩

theorem IsBest.congr {f : ℕ → EReal} {S T : Set ℕ} {v : EReal} {k : ℕ} (h : IsBest f S v k) (e : ∀ r, r ∈ S ↔ r ∈ T) : IsBest f T v k :=
  (Set.ext e : S = T) ▸ h

/-- The second set's entry is kept when it is larger, or equal and further up. -/
theorem IsBest.merge_new {f : ℕ → EReal} {S T : Set ℕ} {v w : EReal} {k l : ℕ} (h : IsBest f S v k) (h' : IsBest f T w l)
    (c : v < w ∨ (w = v ∧ l < k)) : IsBest f (S ∪ T) w l := by
  refine ⟨Or.inr h'.1, h'.2.1, fun r hr => ?_⟩
  rcases hr with hr | hr
  · rcases c with c | ⟨rfl, c⟩
    · rcases h.2.2 r hr with h1 | ⟨h1, -⟩
      · exact Or.inl (h1.trans c)
      · exact Or.inl (h1 ▸ c)
    · rcases h.2.2 r hr with h1 | ⟨h1, h2⟩
      · exact Or.inl h1
      · exact Or.inr ⟨h1, c.le.trans h2⟩
  · exact h'.2.2 r hr

/-- Otherwise the first set's is. -/
theorem IsBest.merge_old {f : ℕ → EReal} {S T : Set ℕ} {v w : EReal} {k l : ℕ} (h : IsBest f S v k) (h' : IsBest f T w l)
    (c : ¬(v < w ∨ (w = v ∧ l < k))) : IsBest f (S ∪ T) v k := by
  have c1 : w ≤ v := not_lt.mp fun x => c (Or.inl x)
  refine ⟨Or.inl h.1, h.2.1, fun r hr => ?_⟩
  rcases hr with hr | hr
  · exact h.2.2 r hr
  · rcases h'.2.2 r hr with h1 | ⟨h1, h2⟩
    · exact Or.inl (h1.trans_le c1)
    · rcases c1.lt_or_eq with h3 | h3
      · exact Or.inl (h1 ▸ h3)
      · exact Or.inr ⟨h1.trans h3, (not_lt.mp fun x => c (Or.inr ⟨h3, x⟩)).trans h2⟩

/-! ## Row numbers as extended reals -/

/-- A row number read as an extended real. -/
def num (k : ℕ) : EReal := ((k : ℝ) : EReal)

theorem num_lt {k l : ℕ} : num k < num l ↔ k < l := by
  unfold num
  rw [EReal.coe_lt_coe_iff, Nat.cast_lt]

/-- A word below 2³¹ converts to its number. -/
theorem sitofp_num {w : BitVec 32} (h : w.toNat < 2 ^ 31) : (FloatOps.sitofp .f32 w : Ideal .f32) = num w.toNat := by
  have e : w.toInt = (w.toNat : ℤ) := by
    have := BitVec.toInt_eq_toNat_cond w
    omega
  show ((w.toInt : ℝ) : EReal) = num w.toNat
  rw [e]
  rfl

/-! ## One-bit conditions -/

theorem ofBool_eq_one {b : Bool} : BitVec.ofBool b = 1#1 ↔ b = true := by cases b <;> decide
theorem or_eq_one : ∀ a b : BitVec 1, IntOp.ori a b = 1#1 ↔ a = 1#1 ∨ b = 1#1 := by decide
theorem and_eq_one : ∀ a b : BitVec 1, IntOp.andi a b = 1#1 ↔ a = 1#1 ∧ b = 1#1 := by decide

theorem gt_eq_one {a b : EReal} : (FloatOps.cmpf (F := Ideal) (φ := .f32) .ogt a b) = 1#1 ↔ b < a :=
  ofBool_eq_one.trans decide_eq_true_iff
theorem lt_eq_one {a b : EReal} : (FloatOps.cmpf (F := Ideal) (φ := .f32) .olt a b) = 1#1 ↔ a < b :=
  ofBool_eq_one.trans decide_eq_true_iff
theorem eq_eq_one {a b : EReal} : (FloatOps.cmpf (F := Ideal) (φ := .f32) .oeq a b) = 1#1 ↔ a = b :=
  ofBool_eq_one.trans decide_eq_true_iff

theorem select_of {α : Type} {c : BitVec 1} {p : Prop} (h : c = 1#1 ↔ p) (a b : α) [Decidable p] : Scalar.select c a b = if p then a else b := by
  by_cases hp : p
  · rw [if_pos hp, h.mpr hp]; rfl
  · rw [if_neg hp, eq_zero_of_ne_one fun x => hp (h.mp x)]; rfl

/-- The bit "larger, or equal and further up". -/
def better (w l v k : EReal) : BitVec 1 :=
  IntOp.ori (FloatOps.cmpf (F := Ideal) (φ := .f32) .ogt w v)
    (IntOp.andi (FloatOps.cmpf (F := Ideal) (φ := .f32) .oeq w v) (FloatOps.cmpf (F := Ideal) (φ := .f32) .olt l k))

theorem better_eq_one {w v : EReal} {l k : ℕ} : better w (num l) v (num k) = 1#1 ↔ v < w ∨ (w = v ∧ l < k) := by
  unfold better
  rw [or_eq_one, and_eq_one, gt_eq_one, eq_eq_one, lt_eq_one, num_lt]

/-- Selecting by that bit merges two sets of rows. -/
theorem merge {f : ℕ → EReal} {S T : Set ℕ} {v w a b : EReal} (h : ∃ k, IsBest f S v k ∧ a = num k) (h' : ∃ l, IsBest f T w l ∧ b = num l) :
    ∃ k, IsBest f (S ∪ T) (Scalar.select (better w b v a) w v) k ∧ Scalar.select (better w b v a) b a = num k := by
  classical
  obtain ⟨k, h, rfl⟩ := h
  obtain ⟨l, h', rfl⟩ := h'
  rw [select_of better_eq_one, select_of better_eq_one]
  by_cases c : v < w ∨ (w = v ∧ l < k)
  · rw [if_pos c, if_pos c]; exact ⟨l, h.merge_new h' c, rfl⟩
  · rw [if_neg c, if_neg c]; exact ⟨k, h.merge_old h' c, rfl⟩

/-- When the second set lies below the first, "larger" alone decides. -/
theorem merge_below {f : ℕ → EReal} {S T : Set ℕ} {v w a b : EReal} (h : ∃ k, IsBest f S v k ∧ a = num k) (h' : ∃ l, IsBest f T w l ∧ b = num l)
    (hst : ∀ s ∈ S, ∀ t ∈ T, s < t) :
    ∃ k, IsBest f (S ∪ T) (Scalar.select (FloatOps.cmpf (F := Ideal) (φ := .f32) .ogt w v) w v) k
      ∧ Scalar.select (FloatOps.cmpf (F := Ideal) (φ := .f32) .ogt w v) b a = num k := by
  classical
  obtain ⟨k, h, rfl⟩ := h
  obtain ⟨l, h', rfl⟩ := h'
  have hkl := hst k h.1 l h'.1
  rw [select_of gt_eq_one, select_of gt_eq_one]
  by_cases c : v < w
  · rw [if_pos c, if_pos c]; exact ⟨l, h.merge_new h' (Or.inl c), rfl⟩
  · rw [if_neg c, if_neg c]
    exact ⟨k, h.merge_old h' (fun x => x.elim c fun y => absurd y.2 (Nat.lt_asymm hkl)), rfl⟩

/-! ## Folds -/

/-- The largest of finitely many entries from the least extended real is one of them. -/
theorem fold_max_attained {n : ℕ} (hn : 0 < n) (g : Fin n → EReal) :
    ∃ r, (Finset.univ : Finset (Fin n)).fold max ⊥ g = g r := by
  rcases (Finset.le_fold_max (s := Finset.univ) (f := g) (b := ⊥) ((Finset.univ : Finset (Fin n)).fold max ⊥ g)).mp le_rfl with h | ⟨r, -, h⟩
  · have h0 := (Finset.fold_max_le (s := Finset.univ) (f := g) (b := ⊥) ((Finset.univ : Finset (Fin n)).fold max ⊥ g)).mp le_rfl
    exact ⟨⟨0, hn⟩, le_antisymm (h.trans bot_le) (h0.2 _ (Finset.mem_univ _))⟩
  · have h0 := (Finset.fold_max_le (s := Finset.univ) (f := g) (b := ⊥) ((Finset.univ : Finset (Fin n)).fold max ⊥ g)).mp le_rfl
    exact ⟨r, le_antisymm h (h0.2 _ (Finset.mem_univ _))⟩

/-- None of them is larger. -/
theorem le_fold_max {n : ℕ} (g : Fin n → EReal) (r : Fin n) : g r ≤ (Finset.univ : Finset (Fin n)).fold max ⊥ g :=
  ((Finset.fold_max_le (s := Finset.univ) (f := g) (b := ⊥) ((Finset.univ : Finset (Fin n)).fold max ⊥ g)).mp le_rfl).2 r (Finset.mem_univ _)

theorem minsi_small {a b : BitVec 32} (ha : a.toNat < 2 ^ 31) (hb : b.toNat < 2 ^ 31) :
    (IntOp.minsi a b = a ∧ a.toNat ≤ b.toNat) ∨ (IntOp.minsi a b = b ∧ b.toNat ≤ a.toNat) := by
  unfold IntOp.minsi
  have ea := BitVec.toInt_eq_toNat_cond a
  have eb := BitVec.toInt_eq_toNat_cond b
  by_cases h : a.slt b = true
  · rw [if_pos h]
    rw [BitVec.slt_iff_toInt_lt] at h
    exact Or.inl ⟨rfl, by omega⟩
  · rw [if_neg h]
    rw [BitVec.slt_iff_toInt_lt] at h
    exact Or.inr ⟨rfl, by omega⟩

/-- The least of finitely many words below 2³¹ is the first one or one of them, and none is smaller. -/
theorem fold_minsi {ι : Type} [DecidableEq ι] (b : BitVec 32) (f : ι → BitVec 32) (hb : b.toNat < 2 ^ 31) (hf : ∀ i, (f i).toNat < 2 ^ 31) (s : Finset ι) :
    (s.fold IntOp.minsi b f).toNat < 2 ^ 31
      ∧ (s.fold IntOp.minsi b f = b ∨ ∃ i ∈ s, s.fold IntOp.minsi b f = f i)
      ∧ ∀ i ∈ s, (s.fold IntOp.minsi b f).toNat ≤ (f i).toNat := by
  induction s using Finset.induction_on with
  | empty => exact ⟨hb, Or.inl rfl, fun i hi => absurd hi (Finset.notMem_empty i)⟩
  | insert a s ha ih =>
    rw [Finset.fold_insert ha]
    obtain ⟨i1, i2, i3⟩ := ih
    rcases minsi_small (hf a) i1 with ⟨h, hle⟩ | ⟨h, hle⟩
    · rw [h]
      refine ⟨hf a, Or.inr ⟨a, Finset.mem_insert_self _ _, rfl⟩, fun i hi => ?_⟩
      rcases Finset.mem_insert.mp hi with rfl | hi
      · exact le_rfl
      · exact hle.trans (i3 i hi)
    · rw [h]
      refine ⟨i1, i2.imp id fun ⟨i, hi, e⟩ => ⟨i, Finset.mem_insert_of_mem hi, e⟩, fun i hi => ?_⟩
      rcases Finset.mem_insert.mp hi with rfl | hi
      · exact hle
      · exact i3 i hi

end Cert.ArgMax

end
-- ==== Proof.BlockBest.lean ====
/-
One block of rows: the kernel's maximum over it and the row number it computes are the block's first largest entry.
-/
module

public import proofs.«01_k».proof.Proof.Best
public import proofs.«01_k».proof.Proof.Rows
public import proofs.«01_k».proof.Proof.Gen.KernelIdeal.Skeleton
public import Idealize.ShloMosaic.Lib.Pipeline.Value

@[expose] public section

set_option maxRecDepth 16384

noncomputable section

namespace Cert.ArgMax

open Cert.KernelIdeal Cert.KernelIdeal.Gen
open Idealize.ShloMosaic
open Idealize.ShloMosaic.ValueIdx

/-- The word of the block's first row: 2048 rows a device, 256 a block. -/
def baseWord (i : grid0.Coords) (d : Dev nD) : BitVec 32 :=
  Scalar.addi (Scalar.muli (Scalar.remsi (Scalar.divsi (Dev.word d) 1#32) 4#32) 2048#32) (Scalar.muli (BitVec.ofNat 32 (i 0).val) 256#32)

theorem baseWord_toNat (i : grid0.Coords) (d : Dev nD) : (baseWord i d).toNat = d.val * 2048 + (i 0).val * 256 := by
  have h : ∀ (d : Dev nD) (n : Fin 8),
      (Scalar.addi (Scalar.muli (Scalar.remsi (Scalar.divsi (Dev.word d) 1#32) 4#32) 2048#32) (Scalar.muli (BitVec.ofNat 32 n.val) 256#32)).toNat
        = d.val * 2048 + n.val * 256 := by decide +kernel
  exact h d (i 0)

theorem lift_row (j : S1024.Idx) (r : Fin 256) :
    Shape.Reduces.lift (a := (0 : Fin S256x1024.rank)) reduces_S256x1024_S1024 j r = ix2 r (j 0) := by
  funext a
  match a with
  | ⟨0, _⟩ => rfl
  | ⟨1, _⟩ => rfl

theorem neg_inf : (FloatOps.ofBits .f32 0xFF800000#32 : Ideal .f32) = (⊥ : EReal) := by
  show Ideal.ofBits .f32 0xFF800000#32 = ⊥
  simp [Ideal.ofBits, Ideal.ieee]

/-- The maximum of a column of the block. -/
theorem blockMax_apply (x : Vec Ideal S256x1024 .f32) (j : S1024.Idx) :
    k0_pay2 x j = (Finset.univ : Finset (Fin 256)).fold max ⊥ fun r => x (ix2 r (j 0)) := by
  unfold k0_pay2 k0_pay1
  rw [shapeCast_self]
  refine (Ideal.multiReduction_maximumf_single (a := (0 : Fin S256x1024.rank)) x _ _ _ _ j).trans ?_
  rw [neg_inf]
  exact Finset.fold_congr (f := x ∘ Shape.Reduces.lift (a := (0 : Fin S256x1024.rank)) reduces_S256x1024_S1024 j) fun r _ => congrArg x (lift_row j r)

/-- The word each row of the block offers: its number where it holds the maximum, 256 elsewhere. -/
def offer (x : Vec Ideal S256x1024 .f32) (j : S1024.Idx) (r : Fin 256) : BitVec 32 :=
  Scalar.select (FloatOps.cmpf (F := Ideal) (φ := .f32) .oeq (x (ix2 r (j 0))) (k0_pay2 x j)) (BitVec.ofNat 32 r.val) 256#32

/-- The least word offered. -/
def leastOffer (x : Vec Ideal S256x1024 .f32) (j : S1024.Idx) : BitVec 32 :=
  (Finset.univ : Finset (Fin 256)).fold IntOp.minsi 2147483647#32 (offer x j)

/-- The words offered, as the kernel lays them out. -/
def offers (x : Vec Ideal S256x1024 .f32) : IVec S256x1024 32 :=
  select (cmpf .oeq (k0_pay1 x) (broadcastTo S256x1024 (shapeCast S1x1024 (k0_pay2 x) shapeCasts_S1024_S1x1024) broadcasts_S1x1024_S256x1024))
    (iota .tc S256x1024 32 [0] iota_S256x1024_d0_w32) (broadcast S256x1024 256#32)

theorem maxRow_apply (y : FVec Ideal S1024 .f32) (j : S1024.Idx) (r : Fin 256) :
    broadcastTo S256x1024 (shapeCast S1x1024 y shapeCasts_S1024_S1x1024) broadcasts_S1x1024_S256x1024 (ix2 r (j 0)) = y j := by
  refine (broadcastTo_apply _ _ _ (ix2 (0 : Fin 1) (j 0)) fun a => ?_).trans ?_
  · match a with
    | ⟨0, _⟩ => rfl
    | ⟨1, _⟩ => rfl
  · exact (vecToRow_apply y _ (ix2 (0 : Fin 1) (j 0))).trans (congrArg y (eq_ix1 j).symm)

theorem offers_apply (x : Vec Ideal S256x1024 .f32) (j : S1024.Idx) (r : Fin 256) : offers x (ix2 r (j 0)) = offer x j r := by
  unfold offers offer k0_pay1
  rw [select_apply, cmpf_apply, iota_single_apply, broadcast_apply, shapeCast_self, maxRow_apply]

theorem least_offers (x : Vec Ideal S256x1024 .f32) (j : S1024.Idx) :
    multiReductionI .minsi [0] S1024 (offers x) 2147483647#32 reduces_S256x1024_S1024 rfl j = leastOffer x j := by
  refine (multiReductionI_eq_fold ..).trans ?_
  refine (Shape.Reduces.fold_filter_drop_single (a := (0 : Fin S256x1024.rank)) reduces_S256x1024_S1024 _ _ (offers x) j).trans ?_
  exact Finset.fold_congr (f := offers x ∘ Shape.Reduces.lift (a := (0 : Fin S256x1024.rank)) reduces_S256x1024_S1024 j)
    fun r _ => (congrArg (offers x) (lift_row j r)).trans (offers_apply x j r)

/-- The row number the kernel computes is the least offered one, counted from the block's first row. -/
theorem blockRow_apply (i : grid0.Coords) (d : Dev nD) (x : Vec Ideal S256x1024 .f32) (j : S1024.Idx) :
    k0_pay3 i d x j = (FloatOps.sitofp .f32 (IntOp.addi (leastOffer x j) (baseWord i d)) : Ideal .f32) := by
  rw [← least_offers]
  rfl

theorem offer_at {x : Vec Ideal S256x1024 .f32} {j : S1024.Idx} {r : Fin 256} (h : x (ix2 r (j 0)) = k0_pay2 x j) :
    (offer x j r).toNat = r.val := by
  unfold offer
  rw [eq_eq_one.mpr h, select_one, BitVec.toNat_ofNat]
  have := r.isLt
  omega

theorem offer_off {x : Vec Ideal S256x1024 .f32} {j : S1024.Idx} {r : Fin 256} (h : x (ix2 r (j 0)) ≠ k0_pay2 x j) :
    (offer x j r).toNat = 256 := by
  unfold offer
  rw [eq_zero_of_ne_one fun e => h (eq_eq_one.mp e), select_zero]
  rfl

theorem offer_small (x : Vec Ideal S256x1024 .f32) (j : S1024.Idx) (r : Fin 256) : (offer x j r).toNat < 2 ^ 31 := by
  by_cases h : x (ix2 r (j 0)) = k0_pay2 x j
  · rw [offer_at h]; have := r.isLt; omega
  · rw [offer_off h]; decide

/-- The least word offered is the least row holding the maximum. -/
theorem leastOffer_spec (x : Vec Ideal S256x1024 .f32) (j : S1024.Idx) :
    ∃ r : Fin 256, x (ix2 r (j 0)) = k0_pay2 x j ∧ (leastOffer x j).toNat = r.val
      ∧ ∀ s : Fin 256, x (ix2 s (j 0)) = k0_pay2 x j → r.val ≤ s.val := by
  obtain ⟨-, h2, h3⟩ := fold_minsi 2147483647#32 (offer x j) (by decide) (offer_small x j) Finset.univ
  obtain ⟨q, hq⟩ := fold_max_attained (by decide : 0 < 256) fun r : Fin 256 => x (ix2 r (j 0))
  have hq : x (ix2 q (j 0)) = k0_pay2 x j := hq.symm.trans (blockMax_apply x j).symm
  have hle : (leastOffer x j).toNat ≤ q.val := (h3 q (Finset.mem_univ _)).trans_eq (offer_at hq)
  have hql := q.isLt
  rcases h2 with h2 | ⟨r, -, h2⟩
  · exfalso
    have h2 : leastOffer x j = 2147483647#32 := h2
    rw [h2] at hle
    have : (2147483647#32 : BitVec 32).toNat = 2147483647 := rfl
    omega
  · have h2 : leastOffer x j = offer x j r := h2
    have hr : x (ix2 r (j 0)) = k0_pay2 x j := by
      by_contra h
      rw [h2, offer_off h] at hle
      omega
    refine ⟨r, hr, by rw [h2, offer_at hr], fun s hs => ?_⟩
    have := h3 s (Finset.mem_univ _)
    rw [offer_at hs] at this
    have h4 : (leastOffer x j).toNat ≤ s.val := this
    rwa [h2, offer_at hr] at h4

/-- A block's maximum and row number are the first largest entry of its rows. -/
theorem block_best (i : grid0.Coords) (d : Dev nD) (x : Vec Ideal S256x1024 .f32) (j : S1024.Idx) (f : ℕ → EReal)
    (hf : ∀ r : Fin 256, x (ix2 r (j 0)) = f (d.val * 2048 + (i 0).val * 256 + r.val)) :
    ∃ k, IsBest f {r | d.val * 2048 + (i 0).val * 256 ≤ r ∧ r < d.val * 2048 + (i 0).val * 256 + 256} (k0_pay2 x j) k
      ∧ (k0_pay3 i d x j : EReal) = num k := by
  obtain ⟨r, h1, h2, h3⟩ := leastOffer_spec x j
  have hr := r.isLt
  have hd : d.val < 4 := d.isLt
  have hi : (i 0).val < 8 := (i 0).isLt
  have hw : (IntOp.addi (leastOffer x j) (baseWord i d)).toNat = d.val * 2048 + (i 0).val * 256 + r.val := by
    show (leastOffer x j + baseWord i d).toNat = _
    rw [BitVec.toNat_add, h2, baseWord_toNat]
    omega
  refine ⟨d.val * 2048 + (i 0).val * 256 + r.val, ⟨⟨by omega, by omega⟩, (hf r).symm.trans h1, fun s hs => ?_⟩, ?_⟩
  · obtain ⟨hs1, hs2⟩ := hs
    obtain ⟨q, rfl⟩ : ∃ q : Fin 256, s = d.val * 2048 + (i 0).val * 256 + q.val :=
      ⟨⟨s - (d.val * 2048 + (i 0).val * 256), by omega⟩, by show s = _ + (s - _); omega⟩
    rw [← hf q]
    have hle : x (ix2 q (j 0)) ≤ k0_pay2 x j := by
      rw [blockMax_apply]
      exact le_fold_max (fun r : Fin 256 => x (ix2 r (j 0))) q
    rcases hle.lt_or_eq with h | h
    · exact Or.inl h
    · exact Or.inr ⟨h, Nat.add_le_add_left (h3 q h) _⟩
  · rw [blockRow_apply, sitofp_num (by rw [hw]; omega), hw]

end Cert.ArgMax

end
-- ==== Proof.KernelBest.lean ====
/-
The kernel's tables: after each block a device's running table holds the first largest entry of the rows seen so far,
and the table each device writes holds that of all rows.
-/
module

public import proofs.«01_k».proof.Proof.BlockBest
public import proofs.«01_k».proof.Proof.Contents

@[expose] public section

set_option maxRecDepth 16384

noncomputable section

namespace Cert.ArgMax

open Cert.KernelIdeal Cert.KernelIdeal.Gen
open Idealize.ShloMosaic
open Idealize.ShloMosaic.TcCoe
open Idealize.ShloMosaic.ValueIdx

/-! ## One update of the running table, at a column -/

section Update

variable (i : grid0.Coords) (d : Dev nD) (x : Vec Ideal S256x1024 .f32) (u v : Vec Ideal S1x1024 .f32) (j : Fin 1024)

theorem pay4_col : k0_pay4 x (ix2 0 j) = k0_pay2 x (ix1 j) := by
  unfold k0_pay4
  exact vecToRow_apply (k0_pay2 x) _ (ix2 (0 : Fin 1) j)

theorem pay5_col : k0_pay5 i d x (ix2 0 j) = k0_pay3 i d x (ix1 j) := by
  unfold k0_pay5
  exact vecToRow_apply (k0_pay3 i d x) _ (ix2 (0 : Fin 1) j)

theorem pay6_col : k0_pay6 u (ix1 j) = u (ix2 0 j) := by
  unfold k0_pay6
  exact rowToVec_apply u _ (ix1 j)

theorem pay7_col : k0_pay7 x u (ix1 j) = FloatOps.cmpf (F := Ideal) (φ := .f32) .ogt (k0_pay2 x (ix1 j)) (u (ix2 0 j)) := by
  unfold k0_pay7
  rw [cmpf_apply, pay6_col]

theorem pay8_col : k0_pay8 x u (ix2 0 j)
    = Scalar.select (FloatOps.cmpf (F := Ideal) (φ := .f32) .ogt (k0_pay2 x (ix1 j)) (u (ix2 0 j))) (k0_pay2 x (ix1 j)) (u (ix2 0 j)) := by
  unfold k0_pay8
  refine (vecToRow_apply _ _ (ix2 (0 : Fin 1) j)).trans ?_
  refine (select_apply _ _ _ (ix1 j)).trans ?_
  rw [pay7_col, pay6_col]

theorem pay9_col : k0_pay9 i d x u v (ix2 0 j)
    = Scalar.select (FloatOps.cmpf (F := Ideal) (φ := .f32) .ogt (k0_pay2 x (ix1 j)) (u (ix2 0 j))) (k0_pay3 i d x (ix1 j)) (v (ix2 0 j)) := by
  unfold k0_pay9
  refine (vecToRow_apply _ _ (ix2 (0 : Fin 1) j)).trans ?_
  refine (select_apply _ _ _ (ix1 j)).trans ?_
  rw [pay7_col]
  exact congrArg _ (rowToVec_apply v _ (ix1 j))

end Update

/-! ## The running table -/

theorem coords_pt (n : ℕ) (hn : n < 8) : ((grid0.coords (pt n)) 0).val = n := by
  have h : ∀ n : Fin 8, ((grid0.coords (pt n.val)) 0).val = n.val := by decide +kernel
  exact h ⟨n, hn⟩

/-- The rows of device `d` below block `n`. -/
def rowsOf (d : Dev nD) (n : ℕ) : Set ℕ := {r | d.val * 2048 ≤ r ∧ r < d.val * 2048 + n * 256}

variable (m : (ℓ : Loc nD τ sig) → Buf (Elt Ideal) ℓ)

/-- The entries of column `j` are `f`'s, row by row over the devices. -/
def HoldsColumn (j : Fin 1024) (f : ℕ → EReal) : Prop :=
  ∀ (d : Dev nD) (n : ℕ), n < 8 → ∀ r : Fin 256, blk m d n (ix2 r j) = f (d.val * 2048 + n * 256 + r.val)

theorem new_block {j : Fin 1024} {f : ℕ → EReal} (H : HoldsColumn m j f) (d : Dev nD) (n : ℕ) (hn : n < 8) :
    ∃ k, IsBest f {r | d.val * 2048 + n * 256 ≤ r ∧ r < d.val * 2048 + n * 256 + 256} (k0_pay2 (blk m d n) (ix1 j)) k
      ∧ (k0_pay3 (grid0.coords (pt n)) d (blk m d n) (ix1 j) : EReal) = num k := by
  have h := block_best (grid0.coords (pt n)) d (blk m d n) (ix1 j) f (fun r => by rw [coords_pt n hn]; exact H d n hn r)
  rwa [coords_pt n hn] at h

/-- After block `n` the running table holds the first largest entry of the rows seen. -/
theorem running_best {j : Fin 1024} {f : ℕ → EReal} (H : HoldsColumn m j f) (d : Dev nD) : ∀ n, n < 8 →
    ∃ k, IsBest f (rowsOf d (n + 1)) (accV m d n (ix2 0 j)) k ∧ (accV m d n (ix2 1 j) : EReal) = num k
  | 0, hn => by
    obtain ⟨k, h1, h2⟩ := new_block m H d 0 hn
    refine ⟨k, ?_, ?_⟩
    · rw [show accV m d 0 (ix2 0 j) = k0_pay2 (blk m d 0) (ix1 j) from (twoRows_zero rfl).trans (pay4_col _ j)]
      exact h1.congr fun r => by simp only [rowsOf, Set.mem_setOf_eq]; omega
    · rw [show accV m d 0 (ix2 1 j) = k0_pay3 (grid0.coords (pt 0)) d (blk m d 0) (ix1 j) from (twoRows_one rfl).trans (pay5_col _ _ _ j)]
      exact h2
  | n + 1, hn => by
    have ih := running_best H d n (by omega)
    have hb := new_block m H d (n + 1) hn
    obtain ⟨k, h1, h2⟩ := merge_below ih hb fun s hs t ht => by
      simp only [rowsOf, Set.mem_setOf_eq] at hs ht
      omega
    refine ⟨k, ?_, ?_⟩
    · rw [show accV m d (n + 1) (ix2 0 j) = _ from (twoRows_zero rfl).trans (pay8_col _ _ j)]
      exact h1.congr fun r => by simp only [rowsOf, Set.mem_union, Set.mem_setOf_eq]; omega
    · rw [show accV m d (n + 1) (ix2 1 j) = _ from (twoRows_one rfl).trans (pay9_col _ _ _ _ _ j)]
      exact h2

/-! ## The four tables put together -/

section Together

variable (C : ComBuf Ideal) (j : Fin 1024)

/-- The bit choosing slot `k`'s entry over `(v, a)`. -/
abbrev beats (k : Fin 4) (v a : EReal) : BitVec 1 := better (C (ix3 k 0 j)) (C (ix3 k 1 j)) v a

/-- The entry and row kept of slots 0 and 1, of slots 0 to 2, and of all four. -/
def keep1 : EReal × EReal :=
  (Scalar.select (beats C j 1 (C (ix3 0 0 j)) (C (ix3 0 1 j))) (C (ix3 1 0 j)) (C (ix3 0 0 j)),
   Scalar.select (beats C j 1 (C (ix3 0 0 j)) (C (ix3 0 1 j))) (C (ix3 1 1 j)) (C (ix3 0 1 j)))
def keep2 : EReal × EReal :=
  (Scalar.select (beats C j 2 (keep1 C j).1 (keep1 C j).2) (C (ix3 2 0 j)) (keep1 C j).1,
   Scalar.select (beats C j 2 (keep1 C j).1 (keep1 C j).2) (C (ix3 2 1 j)) (keep1 C j).2)
def keep3 : EReal × EReal :=
  (Scalar.select (beats C j 3 (keep2 C j).1 (keep2 C j).2) (C (ix3 3 0 j)) (keep2 C j).1,
   Scalar.select (beats C j 3 (keep2 C j).1 (keep2 C j).2) (C (ix3 3 1 j)) (keep2 C j).2)

theorem slot_cast (k : Fin 4) (r : Fin 2) (h : S1x1x1024.ShapeCasts S1024) : shapeCast S1024 (slotRow C k r) h (ix1 j) = C (ix3 k r j) :=
  slotRowToVec_apply (slotRow C k r) h (ix1 j)

theorem pay12_col : k0_pay12 (slotRow C 0 0) (ix1 j) = C (ix3 0 0 j) := by unfold k0_pay12; exact slot_cast C j 0 0 _
theorem pay13_col : k0_pay13 (slotRow C 0 1) (ix1 j) = C (ix3 0 1 j) := by unfold k0_pay13; exact slot_cast C j 0 1 _
theorem pay14_col : k0_pay14 (slotRow C 1 0) (ix1 j) = C (ix3 1 0 j) := by unfold k0_pay14; exact slot_cast C j 1 0 _
theorem pay15_col : k0_pay15 (slotRow C 1 1) (ix1 j) = C (ix3 1 1 j) := by unfold k0_pay15; exact slot_cast C j 1 1 _
theorem pay21_col : k0_pay21 (slotRow C 2 0) (ix1 j) = C (ix3 2 0 j) := by unfold k0_pay21; exact slot_cast C j 2 0 _
theorem pay22_col : k0_pay22 (slotRow C 2 1) (ix1 j) = C (ix3 2 1 j) := by unfold k0_pay22; exact slot_cast C j 2 1 _
theorem pay26_col : k0_pay26 (slotRow C 3 0) (ix1 j) = C (ix3 3 0 j) := by unfold k0_pay26; exact slot_cast C j 3 0 _
theorem pay27_col : k0_pay27 (slotRow C 3 1) (ix1 j) = C (ix3 3 1 j) := by unfold k0_pay27; exact slot_cast C j 3 1 _

/-- The entries and the rows kept of slots 0 and 1, as the kernel computes them. -/
def first0 : FVec Ideal S1024 .f32 :=
  k0_pay19 (k0_pay12 (slotRow C 0 0)) (k0_pay13 (slotRow C 0 1)) (k0_pay14 (slotRow C 1 0)) (k0_pay15 (slotRow C 1 1))
    (k0_pay16 (slotRow C 0 0) (slotRow C 1 0)) (k0_pay17 (slotRow C 0 0) (slotRow C 1 0))
def first1 : FVec Ideal S1024 .f32 :=
  k0_pay20 (k0_pay13 (slotRow C 0 1)) (k0_pay15 (slotRow C 1 1))
    (k0_pay16 (slotRow C 0 0) (slotRow C 1 0)) (k0_pay17 (slotRow C 0 0) (slotRow C 1 0))

theorem choose1_col : k0_pay18 (k0_pay13 (slotRow C 0 1)) (k0_pay15 (slotRow C 1 1))
    (k0_pay16 (slotRow C 0 0) (slotRow C 1 0)) (k0_pay17 (slotRow C 0 0) (slotRow C 1 0)) (ix1 j)
      = beats C j 1 (C (ix3 0 0 j)) (C (ix3 0 1 j)) := by
  rw [← pay12_col C j, ← pay13_col C j, beats, ← pay14_col C j, ← pay15_col C j]
  rfl

theorem first0_col : first0 C (ix1 j) = (keep1 C j).1 := by
  unfold first0 k0_pay19
  refine (select_apply _ _ _ (ix1 j)).trans ?_
  rw [choose1_col, pay14_col, pay12_col]
  rfl

theorem first1_col : first1 C (ix1 j) = (keep1 C j).2 := by
  unfold first1 k0_pay20
  refine (select_apply _ _ _ (ix1 j)).trans ?_
  rw [choose1_col, pay15_col, pay13_col]
  rfl

theorem choose2_col : k0_pay23 (k0_pay12 (slotRow C 0 0)) (k0_pay13 (slotRow C 0 1)) (k0_pay14 (slotRow C 1 0)) (k0_pay15 (slotRow C 1 1))
    (k0_pay16 (slotRow C 0 0) (slotRow C 1 0)) (k0_pay17 (slotRow C 0 0) (slotRow C 1 0)) (slotRow C 2 0) (slotRow C 2 1) (ix1 j)
      = beats C j 2 (keep1 C j).1 (keep1 C j).2 := by
  rw [← first0_col C j, ← first1_col C j, beats, ← pay21_col C j, ← pay22_col C j]
  rfl

theorem three0_col : three0 C (ix1 j) = (keep2 C j).1 := by
  unfold three0 k0_pay24
  refine (select_apply _ _ _ (ix1 j)).trans ?_
  rw [choose2_col, pay21_col]
  exact congrArg _ (first0_col C j)

theorem three1_col : three1 C (ix1 j) = (keep2 C j).2 := by
  unfold three1 k0_pay25
  refine (select_apply _ _ _ (ix1 j)).trans ?_
  rw [choose2_col, pay22_col]
  exact congrArg _ (first1_col C j)

theorem choose3_col : k0_pay28 (three0 C) (three1 C) (slotRow C 3 0) (slotRow C 3 1) (ix1 j) = beats C j 3 (keep2 C j).1 (keep2 C j).2 := by
  rw [← three0_col C j, ← three1_col C j, beats, ← pay26_col C j, ← pay27_col C j]
  rfl

theorem combine_entry : combine C (ix2 0 j) = (keep3 C j).1 := by
  refine (twoRows_zero rfl).trans ?_
  unfold k0_pay29
  refine (vecToRow_apply _ _ (ix2 (0 : Fin 1) j)).trans ?_
  refine (select_apply _ _ _ (ix1 j)).trans ?_
  rw [choose3_col, pay26_col, three0_col]
  rfl

theorem combine_row : combine C (ix2 1 j) = (keep3 C j).2 := by
  refine (twoRows_one rfl).trans ?_
  unfold k0_pay30
  refine (vecToRow_apply _ _ (ix2 (0 : Fin 1) j)).trans ?_
  refine (select_apply _ _ _ (ix1 j)).trans ?_
  rw [choose3_col, pay27_col, three1_col]
  rfl

end Together

/-- Slot `k` of device `c` holds the first largest entry of its source's rows. -/
theorem slot_best {j : Fin 1024} {f : ℕ → EReal} (H : HoldsColumn m j f) (c : Dev nD) (k : Fin 4) :
    ∃ l, IsBest f (rowsOf (source c k.val) 8) (comF m c (ix3 k 0 j)) l ∧ (comF m c (ix3 k 1 j) : EReal) = num l :=
  running_best m H (source c k.val) 7 (by decide)

/-- What a device writes is the first largest entry of all rows. -/
theorem out_best {j : Fin 1024} {f : ℕ → EReal} (H : HoldsColumn m j f) (c : Dev nD) :
    ∃ l, IsBest f {r | r < 8192} (outF m c (ix2 0 j)) l ∧ (outF m c (ix2 1 j) : EReal) = num l := by
  have h1 := merge (slot_best m H c 0) (slot_best m H c 1)
  have h2 := merge h1 (slot_best m H c 2)
  obtain ⟨l, h3, h4⟩ := merge h2 (slot_best m H c 3)
  refine ⟨l, ?_, (combine_row (comF m c) j).trans h4⟩
  rw [show outF m c (ix2 0 j) = _ from combine_entry (comF m c) j]
  refine IsBest.congr h3 fun r => ?_
  have hc : c.val < 4 := c.isLt
  have e : ∀ k : Fin 4, (source c k.val).val = (c.val + 4 - k.val % 4) % 4 := fun _ => rfl
  have e0 := e 0
  have e1 := e 1
  have e2 := e 2
  have e3 := e 3
  simp only [Set.mem_union, rowsOf, Set.mem_setOf_eq, e0, e1, e2, e3]
  simp only [Fin.val_zero, Fin.val_one, Fin.val_two, show (3 : Fin 4).val = 3 from rfl]
  omega

end Cert.ArgMax

end
-- ==== Proof.RefBest.lean ====
/-
The reference's result, column by column: the first largest entry of all rows.
-/
module

public import proofs.«01_k».proof.Proof.Best
public import proofs.«01_k».proof.Proof.RefRun
public import Idealize.ShloMosaic.Lib.Pipeline.Value

@[expose] public section

set_option maxRecDepth 16384

noncomputable section

namespace Cert.ArgMax.Ref

open Cert.ReferenceIdeal Cert.ReferenceIdeal.Gen
open Idealize.ShloMosaic
open Idealize.ShloMosaic.ValueIdx

/-! ## The order in which the reference keeps pairs -/

theorem slt_eq_one {a b : BitVec 32} (ha : a.toNat < 2 ^ 31) (hb : b.toNat < 2 ^ 31) : IntOp.cmpi .slt a b = 1#1 ↔ a.toNat < b.toNat := by
  have ea := BitVec.toInt_eq_toNat_cond a
  have eb := BitVec.toInt_eq_toNat_cond b
  refine (ofBool_eq_one (b := a.slt b)).trans ?_
  rw [BitVec.slt_iff_toInt_lt]
  omega

theorem ne_self (a : EReal) : FloatOps.cmpf (F := Ideal) (φ := .f32) .une a a = 0#1 := by
  show BitVec.ofBool (decide (a ≠ a)) = 0#1
  simp

theorem or_zero : ∀ b : BitVec 1, IntOp.ori b 0#1 = b := by decide

/-- Of two pairs the reference keeps the one of the larger entry, or of equal entries the one of the smaller row. -/
theorem reducer_spec (a b : EReal × BitVec 32) (ha : a.2.toNat < 2 ^ 31) (hb : b.2.toNat < 2 ^ 31) :
    ((b.1 < a.1 ∨ (a.1 = b.1 ∧ a.2.toNat < b.2.toNat)) ∧ reducer_argmax_f32_i32 (F := Ideal) a b = a)
      ∨ (¬(b.1 < a.1 ∨ (a.1 = b.1 ∧ a.2.toNat < b.2.toNat)) ∧ reducer_argmax_f32_i32 (F := Ideal) a b = b) := by
  classical
  unfold reducer_argmax_f32_i32
  simp only [ne_self, or_zero]
  have h2 : IntOp.ori (FloatOps.cmpf (F := Ideal) (φ := .f32) .ogt a.1 b.1)
      (IntOp.andi (FloatOps.cmpf (F := Ideal) (φ := .f32) .oeq a.1 b.1) (IntOp.cmpi .slt a.2 b.2)) = 1#1
        ↔ (b.1 < a.1 ∨ (a.1 = b.1 ∧ a.2.toNat < b.2.toNat)) := by
    rw [or_eq_one, and_eq_one, gt_eq_one, eq_eq_one, slt_eq_one ha hb]
  rw [select_of h2, select_of (gt_eq_one (a := a.1) (b := b.1))]
  by_cases c : b.1 < a.1 ∨ (a.1 = b.1 ∧ a.2.toNat < b.2.toNat)
  · refine Or.inl ⟨c, ?_⟩
    rw [if_pos c]
    by_cases c1 : b.1 < a.1
    · rw [if_pos c1]
    · rw [if_neg c1, ← (c.resolve_left c1).1]
  · refine Or.inr ⟨c, ?_⟩
    rw [if_neg c, if_neg fun h => c (Or.inl h)]

/-- `p` is no better than `q`. -/
def NoBetter (p q : EReal × BitVec 32) : Prop := p.1 < q.1 ∨ (p.1 = q.1 ∧ q.2.toNat ≤ p.2.toNat)

theorem NoBetter.refl (p : EReal × BitVec 32) : NoBetter p p := Or.inr ⟨rfl, le_rfl⟩

theorem NoBetter.trans {p q r : EReal × BitVec 32} (h : NoBetter p q) (h' : NoBetter q r) : NoBetter p r := by
  rcases h with h | ⟨h, hk⟩ <;> rcases h' with h' | ⟨h', hk'⟩
  · exact Or.inl (h.trans h')
  · exact Or.inl (h' ▸ h)
  · exact Or.inl (h ▸ h')
  · exact Or.inr ⟨h.trans h', hk'.trans hk⟩

/-- Folding over a list keeps one of its pairs, or the one started from, and none is better. -/
theorem fold_reducer (L : List (EReal × BitVec 32)) (hL : ∀ p ∈ L, p.2.toNat < 2 ^ 31) :
    ∀ a : EReal × BitVec 32, a.2.toNat < 2 ^ 31 →
      (L.foldl (reducer_argmax_f32_i32 (F := Ideal)) a = a ∨ L.foldl (reducer_argmax_f32_i32 (F := Ideal)) a ∈ L)
        ∧ NoBetter a (L.foldl (reducer_argmax_f32_i32 (F := Ideal)) a)
        ∧ ∀ p ∈ L, NoBetter p (L.foldl (reducer_argmax_f32_i32 (F := Ideal)) a) := by
  induction L with
  | nil => exact fun a _ => ⟨Or.inl rfl, NoBetter.refl a, fun p hp => absurd hp List.not_mem_nil⟩
  | cons b L ih =>
    intro a ha
    have hb := hL b List.mem_cons_self
    have ih := ih fun p hp => hL p (List.mem_cons_of_mem _ hp)
    rw [List.foldl_cons]
    rcases reducer_spec a b ha hb with ⟨c, e⟩ | ⟨c, e⟩
    · rw [e]
      obtain ⟨i1, i2, i3⟩ := ih a ha
      refine ⟨i1.imp id (List.mem_cons_of_mem _), i2, fun p hp => ?_⟩
      rcases List.mem_cons.mp hp with rfl | hp
      · refine NoBetter.trans ?_ i2
        rcases c with c | ⟨c, c'⟩
        · exact Or.inl c
        · exact Or.inr ⟨c.symm, c'.le⟩
      · exact i3 p hp
    · rw [e]
      obtain ⟨i1, i2, i3⟩ := ih b hb
      refine ⟨Or.inr ?_, NoBetter.trans ?_ i2, fun p hp => ?_⟩
      · rcases i1 with i1 | i1
        · rw [i1]; exact List.mem_cons_self
        · exact List.mem_cons_of_mem _ i1
      · have c1 : a.1 ≤ b.1 := not_lt.mp fun h => c (Or.inl h)
        rcases c1.lt_or_eq with h | h
        · exact Or.inl h
        · exact Or.inr ⟨h, not_lt.mp fun h' => c (Or.inr ⟨h, h'⟩)⟩
      · rcases List.mem_cons.mp hp with rfl | hp
        · exact i2
        · exact i3 p hp

/-! ## The pairs of a column -/

theorem reduces_rows : S8192x1024.Reduces [0] S1024 := by decide

theorem lift_row (j : S1024.Idx) (r : Fin 8192) : Shape.Reduces.lift (a := (0 : Fin S8192x1024.rank)) reduces_rows j r = ix2 r (j 0) := by
  funext a
  match a with
  | ⟨0, _⟩ => rfl
  | ⟨1, _⟩ => rfl

/-- The indices above a column are its rows. -/
theorem drop_iff (j : S1024.Idx) (i : S8192x1024.Idx) :
    reducesTo_S8192x1024_S1024_d0.drop i = j ↔ ∃ r : Fin 8192, i = ix2 r (j 0) := by
  rw [Shape.ReducesTo.drop_eq_drop reducesTo_S8192x1024_S1024_d0 reduces_rows]
  constructor
  · intro h
    refine ⟨i 0, ?_⟩
    refine Eq.trans ?_ (lift_row j (i 0))
    rw [← h]
    exact (Shape.Reduces.lift_drop (a := (0 : Fin S8192x1024.rank)) reduces_rows i).symm
  · rintro ⟨r, rfl⟩
    rw [← lift_row]
    exact Shape.Reduces.drop_lift (a := (0 : Fin S8192x1024.rank)) reduces_rows j r

variable (x : FVec Ideal S8192x1024 .f32) (j : S1024.Idx)

theorem mem_pairs (p : EReal × BitVec 32) :
    p ∈ Host.argReduceFiber x (iotaInDim S8192x1024 32 0) reducesTo_S8192x1024_S1024_d0 j
      ↔ ∃ r : Fin 8192, p = (x (ix2 r (j 0)), BitVec.ofNat 32 r.val) := by
  unfold Host.argReduceFiber
  rw [List.mem_map]
  constructor
  · rintro ⟨n, hn, rfl⟩
    rw [List.mem_filter] at hn
    obtain ⟨r, hr⟩ := (drop_iff j _).mp (of_decide_eq_true hn.2)
    exact ⟨r, by rw [hr]; rfl⟩
  · rintro ⟨r, rfl⟩
    refine ⟨S8192x1024.rowMajor (ix2 r (j 0)), ?_, ?_⟩
    · rw [List.mem_filter]
      refine ⟨List.mem_finRange _, decide_eq_true ?_⟩
      rw [Equiv.symm_apply_apply]
      exact (drop_iff j _).mpr ⟨r, rfl⟩
    · rw [Equiv.symm_apply_apply]
      rfl

theorem neg_inf : (FloatOps.ofBits .f32 0xFF800000#32 : Ideal .f32) = (⊥ : EReal) := by
  show Ideal.ofBits .f32 0xFF800000#32 = ⊥
  simp [Ideal.ofBits, Ideal.ieee]

theorem best_fold : best x j = (Host.argReduceFiber x (iotaInDim S8192x1024 32 0) reducesTo_S8192x1024_S1024_d0 j).foldl
    (reducer_argmax_f32_i32 (F := Ideal)) ((⊥ : EReal), 0#32) := by
  unfold best
  rw [Ideal.argReduce_eq_reduce2, Host.reduce2_eq_foldl_fiber]
  rw [← neg_inf]
  rfl

/-- The pair the reference keeps of a column is its first largest entry. -/
theorem best_spec (f : ℕ → EReal) (hf : ∀ r : Fin 8192, x (ix2 r (j 0)) = f r.val) :
    IsBest f {r | r < 8192} (best x j).1 (best x j).2.toNat ∧ (best x j).2.toNat < 2 ^ 31 := by
  have hsmall : ∀ r : Fin 8192, (BitVec.ofNat 32 r.val).toNat = r.val := fun r => by
    rw [BitVec.toNat_ofNat]; have := r.isLt; omega
  have hL : ∀ p ∈ Host.argReduceFiber x (iotaInDim S8192x1024 32 0) reducesTo_S8192x1024_S1024_d0 j, p.2.toNat < 2 ^ 31 := by
    intro p hp
    obtain ⟨r, rfl⟩ := (mem_pairs x j p).mp hp
    show (BitVec.ofNat 32 r.val).toNat < 2 ^ 31
    rw [hsmall]; have := r.isLt; omega
  obtain ⟨h1, h2, h3⟩ := fold_reducer _ hL ((⊥ : EReal), 0#32) (by decide)
  rw [← best_fold] at h1 h2 h3
  have hall : ∀ r : Fin 8192, NoBetter (f r.val, BitVec.ofNat 32 r.val) (best x j) := fun r => by
    rw [← hf r]
    exact h3 _ ((mem_pairs x j _).mpr ⟨r, rfl⟩)
  have hk : ∃ k : Fin 8192, (best x j).2.toNat = k.val ∧ f k.val = (best x j).1 := by
    rcases h1 with h1 | h1
    · refine ⟨0, by rw [h1]; rfl, ?_⟩
      rcases hall 0 with h | h
      · rw [h1] at h; exact absurd h not_lt_bot
      · exact h.1
    · obtain ⟨r, hr⟩ := (mem_pairs x j _).mp h1
      exact ⟨r, by rw [hr]; exact hsmall r, by rw [hr]; exact (hf r).symm⟩
  obtain ⟨k, hk1, hk2⟩ := hk
  have hkl := k.isLt
  refine ⟨⟨by rw [hk1]; exact hkl, by rw [hk1]; exact hk2, fun r hr => ?_⟩, by rw [hk1]; omega⟩
  rcases hall ⟨r, hr⟩ with h | ⟨h, h'⟩
  · exact Or.inl h
  · refine Or.inr ⟨h, ?_⟩
    rw [hsmall ⟨r, hr⟩] at h'
    exact h'

/-- The largest entry the reference takes separately is the same. -/
theorem top_spec (f : ℕ → EReal) (hf : ∀ r : Fin 8192, x (ix2 r (j 0)) = f r.val) : top x j = (best x j).1 := by
  obtain ⟨⟨h1, h2, h3⟩, -⟩ := best_spec x j f hf
  have ht : top x j = (Finset.univ : Finset (Fin 8192)).fold max ⊥ fun r => x (ix2 r (j 0)) := by
    unfold top
    refine (Host.reduce_eq_fold_single (a := (0 : Fin S8192x1024.rank)) _ x _ reducesTo_S8192x1024_S1024_d0 reduces_rows h_S_ j).trans ?_
    refine Eq.trans (b := (Finset.univ : Finset (Fin 8192)).fold max (FloatOps.ofBits .f32 0xFF800000#32 : Ideal .f32)
      (x ∘ Shape.Reduces.lift (a := (0 : Fin S8192x1024.rank)) reduces_rows j)) rfl ?_
    rw [neg_inf]
    exact Finset.fold_congr (f := x ∘ Shape.Reduces.lift (a := (0 : Fin S8192x1024.rank)) reduces_rows j) fun r _ => congrArg x (lift_row j r)
  obtain ⟨q, hq⟩ := fold_max_attained (by decide : 0 < 8192) fun r : Fin 8192 => x (ix2 r (j 0))
  refine le_antisymm ?_ ?_
  · rw [ht, hq]
    show x (ix2 q (j 0)) ≤ _
    rw [hf q]
    rcases h3 q.val q.isLt with h | h
    · exact h.le
    · exact h.1.le
  · rw [ht, ← h2]
    generalize (best x j).2.toNat = k at h1
    have hk := hf ⟨k, h1⟩
    refine le_of_eq_of_le hk.symm ?_
    exact le_fold_max (fun r : Fin 8192 => x (ix2 r (j 0))) ⟨k, h1⟩

/-! ## The result, at a column -/

theorem value_entry (q : Fin 1024) : value x (ix2 0 q) = top x (ix1 q) := by
  unfold value
  refine (concatenate_pair_apply_left (t := S2x1024) (s₁ := S1x1024) (s₂ := S1x1024) (0 : Fin 2) _ _ _ (ix2 (0 : Fin 2) q) rfl (ix2 (0 : Fin 1) q) fun b => ?_).trans ?_
  · match b with
    | ⟨0, _⟩ => rfl
    | ⟨1, _⟩ => rfl
  · refine broadcastInDim_apply _ _ _ _ (ix1 q) fun a => ?_
    match a with
    | ⟨0, _⟩ => rfl

theorem value_row (q : Fin 1024) : value x (ix2 1 q) = (FloatOps.sitofp .f32 (best x (ix1 q)).2 : Ideal .f32) := by
  unfold value
  refine (concatenate_pair_apply_right (t := S2x1024) (s₁ := S1x1024) (s₂ := S1x1024) (0 : Fin 2) _ _ _ (ix2 (1 : Fin 2) q) rfl rfl (ix2 (0 : Fin 1) q) (fun b hb => ?_) rfl).trans ?_
  · match b, hb with
    | ⟨0, _⟩, hb => exact absurd rfl hb
    | ⟨1, _⟩, _ => rfl
  · refine (broadcastInDim_apply _ _ _ _ (ix1 q) fun a => ?_).trans rfl
    match a with
    | ⟨0, _⟩ => rfl

/-- The reference's result is the first largest entry of all rows. -/
theorem value_best (q : Fin 1024) (f : ℕ → EReal) (hf : ∀ r : Fin 8192, x (ix2 r q) = f r.val) :
    ∃ k, IsBest f {r | r < 8192} (value x (ix2 0 q)) k ∧ (value x (ix2 1 q) : EReal) = num k := by
  obtain ⟨h1, h2⟩ := best_spec x (ix1 q) f hf
  refine ⟨(best x (ix1 q)).2.toNat, ?_, ?_⟩
  · rw [value_entry, top_spec x (ix1 q) f hf]
    exact h1
  · rw [value_row, sitofp_num h2]

end Cert.ArgMax.Ref

end
-- ==== Proof.Equation.lean ====
/-
The kernel's table is the reference's.
-/
module

public import proofs.«01_k».proof.Proof.KernelBest
public import proofs.«01_k».proof.Proof.RefBest
public import Idealize.ShloMosaic.Lib.Layout
public import Idealize.ShloMosaic.Lib.Pipeline.ValueKit
public import Idealize.ShloMosaic.PureOps.Ideal.Laws

@[expose] public section

set_option maxRecDepth 16384

noncomputable section

namespace Cert.ArgMax

open Cert.KernelIdeal Cert.KernelIdeal.Gen
open Idealize.ShloMosaic hiding ix2
open Idealize.ShloMosaic.TcCoe
open Idealize.ShloMosaic.ValueIdx

/-- The entries of a column of `x`, by row number. -/
def column (x : FVec Ideal Cert.ReferenceIdeal.S8192x1024 .f32) (j : Fin 1024) (r : ℕ) : EReal :=
  if h : r < 8192 then x (ix2 ⟨r, h⟩ j) else 0

theorem column_row (x : FVec Ideal Cert.ReferenceIdeal.S8192x1024 .f32) (j : Fin 1024) (r : Fin 8192) : x (ix2 r j) = column x j r.val := by
  unfold column
  rw [dif_pos r.isLt]

/-- Block `n` of the input starts at row `256 * n`. -/
theorem block_index (n : ℕ) (hn : n < 8) : win0_0.index (pt n) 0 = n ∧ win0_0.index (pt n) 1 = 0 := by
  have h : ∀ n : Fin 8, win0_0.index (pt n.val) 0 = n.val ∧ win0_0.index (pt n.val) 1 = 0 := by decide +kernel
  exact h ⟨n, hn⟩

variable (m : (ℓ : Loc nD τ sig) → Buf (Elt Ideal) ℓ)

/-- An entry of a block is an entry of the device's own array. -/
theorem blk_entry (d : Dev nD) (n : ℕ) (hn : n < 8) (r : Fin 256) (j : Fin 1024) (q : Fin 2048) (hq : q.val = n * 256 + r.val) :
    blk m d n (ix2 r j) = m ((d.tc : Thread nD τ).loc main_arg0) (ix2 q j) := by
  obtain ⟨e0, e1⟩ := block_index n hn
  show m ((d.tc : Thread nD τ).loc main_arg0) (((cfg0.win 0).blk (pt n)).view.emb (ix2 r j)) = _
  refine congrArg (m ((d.tc : Thread nD τ).loc main_arg0)) (funext fun a => Fin.ext ?_)
  match a with
  | ⟨0, _⟩ =>
    refine Eq.trans (b := win0_0.index (pt n) 0 * 256 + r.val) ?_ ?_
    · blk_simp
    · rw [e0]; exact hq.symm
  | ⟨1, _⟩ =>
    refine Eq.trans (b := win0_0.index (pt n) 1 * 1024 + j.val) ?_ ?_
    · blk_simp
    · rw [e1]; show 0 * 1024 + j.val = j.val; omega

variable {m} (x : FVec Ideal Cert.ReferenceIdeal.S8192x1024 .f32)

theorem holds_column (hx : ∀ c : Dev nD, m ((c.tc : Thread nD τ).loc main_arg0) = Layout.block ⟨2, ![2048, 1024]⟩ ⟨2, ![8192, 1024]⟩ 0 4 c x)
    (j : Fin 1024) : HoldsColumn m j (column x j) := by
  intro d n hn r
  have hr := r.isLt
  have hd : d.val < 4 := d.isLt
  rw [blk_entry m d n hn r j ⟨n * 256 + r.val, by omega⟩ rfl, hx d]
  refine Eq.trans ?_ (column_row x j ⟨d.val * 2048 + n * 256 + r.val, by omega⟩)
  refine congrArg x (funext fun a => Fin.ext ?_)
  match a with
  | ⟨0, _⟩ => show d.val * 2048 + (n * 256 + r.val) = d.val * 2048 + n * 256 + r.val; omega
  | ⟨1, _⟩ => rfl

/-- When every device holds its quarter of the rows of `x`, every device's table is what the reference computes of `x`. -/
theorem outF_value (m : (ℓ : Loc nD τ sig) → Buf (Elt Ideal) ℓ) (x : FVec Ideal Cert.ReferenceIdeal.S8192x1024 .f32)
    (hx : ∀ c : Dev nD, m ((c.tc : Thread nD τ).loc main_arg0) = Layout.block ⟨2, ![2048, 1024]⟩ ⟨2, ![8192, 1024]⟩ 0 4 c x)
    (c : Dev nD) : outF m c = Ref.value x := by
  have rows : ∀ j : Fin 1024, outF m c (ix2 0 j) = Ref.value x (ix2 0 j) ∧ outF m c (ix2 1 j) = Ref.value x (ix2 1 j) := by
    intro j
    obtain ⟨k, h1, h2⟩ := out_best m (holds_column x hx j) c
    obtain ⟨l, h3, h4⟩ := Ref.value_best x j (column x j) (column_row x j)
    obtain ⟨e, rfl⟩ := h1.unique h3
    exact ⟨e, h2.trans h4.symm⟩
  funext i
  rcases row_cases i with h | h
  · rw [show i = ix2 (0 : Fin 2) (i 1) by funext a; match a with | ⟨0, _⟩ => exact Fin.ext h | ⟨1, _⟩ => rfl]
    exact (rows (i 1)).1
  · rw [show i = ix2 (1 : Fin 2) (i 1) by funext a; match a with | ⟨0, _⟩ => exact Fin.ext h | ⟨1, _⟩ => rfl]
    exact (rows (i 1)).2

end Cert.ArgMax

end
-- ==== Proof.SameText.lean ====
/-
The kernel is printed twice, once to be read at machine floats and once at extended reals. The two texts are the
same, so what the bodies do, read at machine floats, is the same.
-/
module

public import proofs.«01_k».proof.Proof.Gen.Kernel
public import proofs.«01_k».proof.Proof.Gen.KernelIdeal
public import Idealize.ShloMosaic.PureOps.BitExact

@[expose] public section

namespace Cert.ArgMax

open Idealize.ShloMosaic

theorem same_bodies : @Cert.Kernel.defs₀ Bits _ Cert.Kernel.Gen.facts = @Cert.KernelIdeal.defs₀ Bits _ Cert.KernelIdeal.Gen.facts := by
  funext pr l a
  cases pr with
  | tc =>
    match l, a with
    | ⟨0, _⟩, (t, s) => rfl
  | scScalar i => rfl
  | scVector i j => rfl

/-- The two tables of bodies are one. -/
theorem same_text : @Cert.Kernel.defs Bits _ Cert.Kernel.Gen.facts = @Cert.KernelIdeal.defs Bits _ Cert.KernelIdeal.Gen.facts :=
  congrArg (Pipeline.defs (@Cert.KernelIdeal.pcfgs Bits _)) same_bodies

end Cert.ArgMax
-- ==== Proof.lean ====
/-
The claims, put together: the two runs of the kernel, the run of the reference, and the equality of their results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.ReferenceIdeal
public import proofs.«01_k».proof.Proof.Final
public import proofs.«01_k».proof.Proof.RefRun
public import proofs.«01_k».proof.Proof.Equation
public import proofs.«01_k».proof.Proof.SameText

@[expose] public section

noncomputable section

namespace Cert.Proof

open Idealize.ShloMosaic Idealize.SL.Sem

/-- The kernel's second text, read at machine floats, runs to its end, its rows unchanged and every counter at zero. -/
theorem second_text_runs (m : (ℓ : Loc Cert.KernelIdeal.nD Cert.KernelIdeal.τ Cert.KernelIdeal.sig) → Buf (Elt Bits) ℓ)
    (g : Dev Cert.KernelIdeal.nD → PrngReg) :
    θ_run (@Cert.KernelIdeal.defs Bits _ Cert.KernelIdeal.Gen.facts) (onTc (τ := Cert.KernelIdeal.τ) (@Cert.KernelIdeal.main Bits _))
      ⟨m, fun _ => 0, g⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c).2, h.2⟩) (Cert.ArgMax.run_value (F := Bits) m g)

/-- The kernel read at machine floats runs to its end, its rows unchanged and every counter at zero. -/
theorem kernel_runs : @quiescent_Kernel Cert.Kernel.Gen.facts := fun m g _ => by
  rw [Cert.ArgMax.same_text]
  exact second_text_runs m g

/-- So does the kernel read at extended reals. -/
theorem kernelIdeal_runs : @quiescent_KernelIdeal Cert.KernelIdeal.Gen.facts := fun m g _ =>
  (θ_run _ _ _).mono (fun _ h => ⟨fun c => (h.1 c).2, h.2⟩) (Cert.ArgMax.run_value (F := Ideal) m g)

/-- So does the reference. -/
theorem reference_runs : @quiescent_ReferenceIdeal Cert.ReferenceIdeal.Gen.facts := fun m g _ =>
  (θ_run _ _ _).mono (fun _ h => ⟨fun c => (h.1 c).2, h.2⟩) (Cert.ArgMax.Ref.run_value (F := Ideal) m g)

/-- Over extended reals every device's result is the reference's. -/
theorem same_result : @algebraic_KernelIdeal_ReferenceIdeal Cert.KernelIdeal.Gen.facts Cert.ReferenceIdeal.Gen.facts :=
  fun m g m' g' _ hx =>
    ⟨Cert.ArgMax.Ref.value (F := Ideal) (m' (((0 : Dev Cert.ReferenceIdeal.nD).tc : Thread Cert.ReferenceIdeal.nD Cert.ReferenceIdeal.τ).loc Cert.ReferenceIdeal.main_arg0)),
      (θ_run _ _ _).mono (fun _ h c => ⟨(h.1 c).1.trans (Cert.ArgMax.outF_value m _ hx c), (h.1 c).2⟩) (Cert.ArgMax.run_value (F := Ideal) m g),
      (θ_run _ _ _).mono (fun _ h => h.1 0) (Cert.ArgMax.Ref.run_value (F := Ideal) m' g')⟩

/-- Every claim. -/
theorem claim : Cert.Claim :=
  ⟨Cert.Kernel.Gen.facts, Cert.KernelIdeal.Gen.facts, Cert.ReferenceIdeal.Gen.facts,
    kernel_runs, kernelIdeal_runs, reference_runs, trivial, same_result⟩

end Cert.Proof

end
